-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![512, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v79) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S_ : Shape := ⟨0, ![]⟩
abbrev S512x1 : Shape := ⟨2, ![512, 1]⟩
abbrev S512 : Shape := ⟨1, ![512]⟩

class Facts : Prop where
  bcast_S_S512x2 : S_.BroadcastsInDim S512x2 (![] : Fin 0 → Fin S512x2.rank)
  bcast_S_S512x256 : S_.BroadcastsInDim S512x256 (![] : Fin 0 → Fin S512x256.rank)
  bcast_S_S256x32 : S_.BroadcastsInDim S256x32 (![] : Fin 0 → Fin S256x32.rank)
  slices_S512x2_S512x1_0_0 : S512x2.Slices ![0, 0] S512x1
  shapeCasts_S512x1_S512 : S512x1.ShapeCasts S512
  slices_S512x2_S512x1_0_1 : S512x2.Slices ![0, 1] S512x1

variable [Facts]

def fn {F : FTy → Type} [FloatOps F] (main_arg0 : FVec F S512x256 .bf16) (main_arg1 : FVec F S256x32 .bf16) (main_arg2 : IVec S512x2 32) (main_arg3 : FVec F S4x256x512 .bf16) : IVec S512x256 1 × IVec S256x32 1 × IVec S512 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 32#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .bf16 := Host.absf main_arg0
  let main_cst : FVec F S_ .bf16 := constant S_ .bf16 0x7F80#16
  let main_v6 : FVec F S512x256 .bf16 := broadcastInDim S512x256 ![] bcast_S_S512x256 main_cst
  let main_v7 : IVec S512x256 1 := cmpf .olt main_v5 main_v6
  let main_v8 : FVec F S256x32 .bf16 := Host.absf main_arg1
  let main_cst_1 : FVec F S_ .bf16 := constant S_ .bf16 0x7F80#16
  let main_v9 : FVec F S256x32 .bf16 := broadcastInDim S256x32 ![] bcast_S_S256x32 main_cst_1
  let main_v10 : IVec S256x32 1 := cmpf .olt main_v8 main_v9
  let main_v11 : IVec S512x1 1 := (extractStridedSlice S512x1 ![0, 0] · slices_S512x2_S512x1_0_0) main_v4
  let main_v12 : IVec S512 1 := shapeCast S512 main_v11 shapeCasts_S512x1_S512
  let main_v13 : IVec S512x1 1 := (extractStridedSlice S512x1 ![0, 1] · slices_S512x2_S512x1_0_1) main_v4
  let main_v14 : IVec S512 1 := shapeCast S512 main_v13 shapeCasts_S512x1_S512
  let main_v15 : IVec S512 1 := ori main_v12 main_v14
  (main_v7, main_v10, main_v15)
-- ==== Pre_routed_ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S_ : Shape := ⟨0, ![]⟩
abbrev S512x1 : Shape := ⟨2, ![512, 1]⟩
abbrev S512 : Shape := ⟨1, ![512]⟩

class Facts : Prop where
  bcast_S_S512x2 : S_.BroadcastsInDim S512x2 (![] : Fin 0 → Fin S512x2.rank)
  bcast_S_S512x256 : S_.BroadcastsInDim S512x256 (![] : Fin 0 → Fin S512x256.rank)
  bcast_S_S256x32 : S_.BroadcastsInDim S256x32 (![] : Fin 0 → Fin S256x32.rank)
  slices_S512x2_S512x1_0_0 : S512x2.Slices ![0, 0] S512x1
  shapeCasts_S512x1_S512 : S512x1.ShapeCasts S512
  slices_S512x2_S512x1_0_1 : S512x2.Slices ![0, 1] S512x1

variable [Facts]

def fn {F : FTy → Type} [FloatOps F] (main_arg0 : FVec F S512x256 .bf16) (main_arg1 : FVec F S256x32 .bf16) (main_arg2 : IVec S512x2 32) (main_arg3 : FVec F S32x256x512 .bf16) : IVec S512x256 1 × IVec S256x32 1 × IVec S512 1 :=
  let main_c : IVec S_ 32 := constantI S_ 32 0#32
  let main_v0 : IVec S512x2 32 := broadcastInDim S512x2 ![] bcast_S_S512x2 main_c
  let main_v1 : IVec S512x2 1 := cmpi .sge main_arg2 main_v0
  let main_c_0 : IVec S_ 32 := constantI S_ 32 32#32
  let main_v2 : IVec S512x2 32 := broadcastInDim S512x2 ![] bcast_S_S512x2 main_c_0
  let main_v3 : IVec S512x2 1 := cmpi .slt main_arg2 main_v2
  let main_v4 : IVec S512x2 1 := andi main_v1 main_v3
  let main_v5 : FVec F S512x256 .bf16 := Host.absf main_arg0
  let main_cst : FVec F S_ .bf16 := constant S_ .bf16 0x7F80#16
  let main_v6 : FVec F S512x256 .bf16 := broadcastInDim S512x256 ![] bcast_S_S512x256 main_cst
  let main_v7 : IVec S512x256 1 := cmpf .olt main_v5 main_v6
  let main_v8 : FVec F S256x32 .bf16 := Host.absf main_arg1
  let main_cst_1 : FVec F S_ .bf16 := constant S_ .bf16 0x7F80#16
  let main_v9 : FVec F S256x32 .bf16 := broadcastInDim S256x32 ![] bcast_S_S256x32 main_cst_1
  let main_v10 : IVec S256x32 1 := cmpf .olt main_v8 main_v9
  let main_v11 : IVec S512x1 1 := (extractStridedSlice S512x1 ![0, 0] · slices_S512x2_S512x1_0_0) main_v4
  let main_v12 : IVec S512 1 := shapeCast S512 main_v11 shapeCasts_S512x1_S512
  let main_v13 : IVec S512x1 1 := (extractStridedSlice S512x1 ![0, 1] · slices_S512x2_S512x1_0_1) main_v4
  let main_v14 : IVec S512 1 := shapeCast S512 main_v13 shapeCasts_S512x1_S512
  let main_v15 : IVec S512 1 := ori main_v12 main_v14
  (main_v7, main_v10, main_v15)
-- ==== Kernel.lean ====
abbrev S512x256 : Shape := ⟨2, ![512, 256]⟩
abbrev S256x32 : Shape := ⟨2, ![256, 32]⟩
abbrev S512x2 : Shape := ⟨2, ![512, 2]⟩
abbrev S4x256x512 : Shape := ⟨3, ![4, 256, 512]⟩
abbrev S64x512 : Shape := ⟨2, ![64, 512]⟩
abbrev S8x64x512 : Shape := ⟨3, ![8, 64, 512]⟩
abbrev S7x64x512 : Shape := ⟨3, ![7, 64, 512]⟩
abbrev S7 : Shape := ⟨1, ![7]⟩
abbrev S_ : Shape := ⟨0, ![]⟩
abbrev S512x32 : Shape := ⟨2, ![512, 32]⟩
abbrev S512 : Shape := ⟨1, ![512]⟩
abbrev S512x1 : Shape := ⟨2, ![512, 1]⟩
abbrev S512x1024 : Shape := ⟨2, ![512, 1024]⟩
abbrev S1024x512 : Shape := ⟨2, ![1024, 512]⟩
abbrev S512x512 : Shape := ⟨2, ![512, 512]⟩
abbrev S1x64x512 : Shape := ⟨3, ![1, 64, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x2, .i32⟩
  | .hbm, ⟨3, _⟩ => ⟨S4x256x512, .bf16⟩
  | .hbm, ⟨4, _⟩ => ⟨S64x512, .f32⟩
  | .local _ .vmem, ⟨0, _⟩ => ⟨S512x256, .bf16⟩
  | .local _ .vmem, ⟨1, _⟩ => ⟨S256x32, .bf16⟩
  | .local _ .vmem, ⟨2, _⟩ => ⟨S512x2, .i32⟩
  | .local _ .vmem, ⟨3, _⟩ => ⟨S4x256x512, .bf16⟩
  | .local _ .vmem, ⟨4, _⟩ => ⟨S64x512, .f32⟩
  | .local _ .vmem, ⟨5, _⟩ => ⟨S8x64x512, .bf16⟩
  | .local _ .vmem, ⟨6, _⟩ => ⟨S7x64x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  v14.toNat
def k0_dev2 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v15 : BitVec 32 := Scalar.addi v2 c2_i32
  let c8_i32_7 : BitVec 32 := 8#32
  let c0_i32_8 : BitVec 32 := 0#32
  let v16 : BitVec 1 := Scalar.cmpi .eq c8_i32_7 c0_i32_8
  let c1_i32_9 : BitVec 32 := 1#32
  let v17 : BitVec 32 := Scalar.select v16 c1_i32_9 c8_i32_7
  let v18 : BitVec 32 := Scalar.remsi v15 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  v25.toNat
def k0_dev3 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v26 : BitVec 32 := Scalar.addi v2 c3_i32
  let c8_i32_14 : BitVec 32 := 8#32
  let c0_i32_15 : BitVec 32 := 0#32
  let v27 : BitVec 1 := Scalar.cmpi .eq c8_i32_14 c0_i32_15
  let c1_i32_16 : BitVec 32 := 1#32
  let v28 : BitVec 32 := Scalar.select v27 c1_i32_16 c8_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  v36.toNat
def k0_dev4 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v37 : BitVec 32 := Scalar.addi v2 c4_i32
  let c8_i32_21 : BitVec 32 := 8#32
  let c0_i32_22 : BitVec 32 := 0#32
  let v38 : BitVec 1 := Scalar.cmpi .eq c8_i32_21 c0_i32_22
  let c1_i32_23 : BitVec 32 := 1#32
  let v39 : BitVec 32 := Scalar.select v38 c1_i32_23 c8_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  v47.toNat
def k0_dev5 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v48 : BitVec 32 := Scalar.addi v2 c5_i32
  let c8_i32_28 : BitVec 32 := 8#32
  let c0_i32_29 : BitVec 32 := 0#32
  let v49 : BitVec 1 := Scalar.cmpi .eq c8_i32_28 c0_i32_29
  let c1_i32_30 : BitVec 32 := 1#32
  let v50 : BitVec 32 := Scalar.select v49 c1_i32_30 c8_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  v58.toNat
def k0_dev6 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v59 : BitVec 32 := Scalar.addi v2 c6_i32
  let c8_i32_35 : BitVec 32 := 8#32
  let c0_i32_36 : BitVec 32 := 0#32
  let v60 : BitVec 1 := Scalar.cmpi .eq c8_i32_35 c0_i32_36
  let c1_i32_37 : BitVec 32 := 1#32
  let v61 : BitVec 32 := Scalar.select v60 c1_i32_37 c8_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  v69.toNat
def k0_dev7 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v70 : BitVec 32 := Scalar.addi v2 c7_i32
  let c8_i32_42 : BitVec 32 := 8#32
  let c0_i32_43 : BitVec 32 := 0#32
  let v71 : BitVec 1 := Scalar.cmpi .eq c8_i32_42 c0_i32_43
  let c1_i32_44 : BitVec 32 := 1#32
  let v72 : BitVec 32 := Scalar.select v71 c1_i32_44 c8_i32_42
  let v73 : BitVec 32 := Scalar.remsi v70 v72
  let c0_i32_46 : BitVec 32 := 0#32
  let v75 : BitVec 1 := Scalar.cmpi .slt v73 c0_i32_46
  let c0_i32_47 : BitVec 32 := 0#32
  let v76 : BitVec 1 := Scalar.cmpi .slt v72 c0_i32_47
  let v77 : BitVec 1 := Scalar.xori v75 v76
  let c0_i32_45 : BitVec 32 := 0#32
  let v74 : BitVec 1 := Scalar.cmpi .ne v73 c0_i32_45
  let v78 : BitVec 1 := Scalar.andi v77 v74
  let v79 : BitVec 32 := Scalar.addi v73 v72
  let v80 : BitVec 32 := Scalar.select v78 v79 v73
  v80.toNat
def k0_off1 (d0 : Dev nD) (c1_i32_97 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v196 : BitVec 32 := Scalar.addi v2 c1_i32_97
  let c8_i32_98 : BitVec 32 := 8#32
  let c0_i32_99 : BitVec 32 := 0#32
  let v197 : BitVec 1 := Scalar.cmpi .eq c8_i32_98 c0_i32_99
  let c1_i32_100 : BitVec 32 := 1#32
  let v198 : BitVec 32 := Scalar.select v197 c1_i32_100 c8_i32_98
  let v199 : BitVec 32 := Scalar.remsi v196 v198
  let c0_i32_102 : BitVec 32 := 0#32
  let v201 : BitVec 1 := Scalar.cmpi .slt v199 c0_i32_102
  let c0_i32_103 : BitVec 32 := 0#32
  let v202 : BitVec 1 := Scalar.cmpi .slt v198 c0_i32_103
  let v203 : BitVec 1 := Scalar.xori v201 v202
  let c0_i32_101 : BitVec 32 := 0#32
  let v200 : BitVec 1 := Scalar.cmpi .ne v199 c0_i32_101
  let v204 : BitVec 1 := Scalar.andi v203 v200
  let v205 : BitVec 32 := Scalar.addi v199 v198
  let v206 : BitVec 32 := Scalar.select v204 v205 v199
  let c0_i32_109 : BitVec 32 := 0#32
  let c0_i32_110 : BitVec 32 := 0#32
  ![v206.toNat, 0, 0]
def k0_dev8 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_97 : BitVec 32 := 1#32
  let v196 : BitVec 32 := Scalar.addi v2 c1_i32_97
  let c8_i32_98 : BitVec 32 := 8#32
  let c0_i32_99 : BitVec 32 := 0#32
  let v197 : BitVec 1 := Scalar.cmpi .eq c8_i32_98 c0_i32_99
  let c1_i32_100 : BitVec 32 := 1#32
  let v198 : BitVec 32 := Scalar.select v197 c1_i32_100 c8_i32_98
  let v199 : BitVec 32 := Scalar.remsi v196 v198
  let c0_i32_102 : BitVec 32 := 0#32
  let v201 : BitVec 1 := Scalar.cmpi .slt v199 c0_i32_102
  let c0_i32_103 : BitVec 32 := 0#32
  let v202 : BitVec 1 := Scalar.cmpi .slt v198 c0_i32_103
  let v203 : BitVec 1 := Scalar.xori v201 v202
  let c0_i32_101 : BitVec 32 := 0#32
  let v200 : BitVec 1 := Scalar.cmpi .ne v199 c0_i32_101
  let v204 : BitVec 1 := Scalar.andi v203 v200
  let v205 : BitVec 32 := Scalar.addi v199 v198
  let v206 : BitVec 32 := Scalar.select v204 v205 v199
  v206.toNat
def k0_dev9 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_111 : BitVec 32 := 2#32
  let v215 : BitVec 32 := Scalar.addi v2 c2_i32_111
  let c8_i32_112 : BitVec 32 := 8#32
  let c0_i32_113 : BitVec 32 := 0#32
  let v216 : BitVec 1 := Scalar.cmpi .eq c8_i32_112 c0_i32_113
  let c1_i32_114 : BitVec 32 := 1#32
  let v217 : BitVec 32 := Scalar.select v216 c1_i32_114 c8_i32_112
  let v218 : BitVec 32 := Scalar.remsi v215 v217
  let c0_i32_116 : BitVec 32 := 0#32
  let v220 : BitVec 1 := Scalar.cmpi .slt v218 c0_i32_116
  let c0_i32_117 : BitVec 32 := 0#32
  let v221 : BitVec 1 := Scalar.cmpi .slt v217 c0_i32_117
  let v222 : BitVec 1 := Scalar.xori v220 v221
  let c0_i32_115 : BitVec 32 := 0#32
  let v219 : BitVec 1 := Scalar.cmpi .ne v218 c0_i32_115
  let v223 : BitVec 1 := Scalar.andi v222 v219
  let v224 : BitVec 32 := Scalar.addi v218 v217
  let v225 : BitVec 32 := Scalar.select v223 v224 v218
  v225.toNat
def k0_dev10 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_125 : BitVec 32 := 3#32
  let v234 : BitVec 32 := Scalar.addi v2 c3_i32_125
  let c8_i32_126 : BitVec 32 := 8#32
  let c0_i32_127 : BitVec 32 := 0#32
  let v235 : BitVec 1 := Scalar.cmpi .eq c8_i32_126 c0_i32_127
  let c1_i32_128 : BitVec 32 := 1#32
  let v236 : BitVec 32 := Scalar.select v235 c1_i32_128 c8_i32_126
  let v237 : BitVec 32 := Scalar.remsi v234 v236
  let c0_i32_130 : BitVec 32 := 0#32
  let v239 : BitVec 1 := Scalar.cmpi .slt v237 c0_i32_130
  let c0_i32_131 : BitVec 32 := 0#32
  let v240 : BitVec 1 := Scalar.cmpi .slt v236 c0_i32_131
  let v241 : BitVec 1 := Scalar.xori v239 v240
  let c0_i32_129 : BitVec 32 := 0#32
  let v238 : BitVec 1 := Scalar.cmpi .ne v237 c0_i32_129
  let v242 : BitVec 1 := Scalar.andi v241 v238
  let v243 : BitVec 32 := Scalar.addi v237 v236
  let v244 : BitVec 32 := Scalar.select v242 v243 v237
  v244.toNat
def k0_dev11 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_139 : BitVec 32 := 4#32
  let v253 : BitVec 32 := Scalar.addi v2 c4_i32_139
  let c8_i32_140 : BitVec 32 := 8#32
  let c0_i32_141 : BitVec 32 := 0#32
  let v254 : BitVec 1 := Scalar.cmpi .eq c8_i32_140 c0_i32_141
  let c1_i32_142 : BitVec 32 := 1#32
  let v255 : BitVec 32 := Scalar.select v254 c1_i32_142 c8_i32_140
  let v256 : BitVec 32 := Scalar.remsi v253 v255
  let c0_i32_144 : BitVec 32 := 0#32
  let v258 : BitVec 1 := Scalar.cmpi .slt v256 c0_i32_144
  let c0_i32_145 : BitVec 32 := 0#32
  let v259 : BitVec 1 := Scalar.cmpi .slt v255 c0_i32_145
  let v260 : BitVec 1 := Scalar.xori v258 v259
  let c0_i32_143 : BitVec 32 := 0#32
  let v257 : BitVec 1 := Scalar.cmpi .ne v256 c0_i32_143
  let v261 : BitVec 1 := Scalar.andi v260 v257
  let v262 : BitVec 32 := Scalar.addi v256 v255
  let v263 : BitVec 32 := Scalar.select v261 v262 v256
  v263.toNat
def k0_dev12 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_153 : BitVec 32 := 5#32
  let v272 : BitVec 32 := Scalar.addi v2 c5_i32_153
  let c8_i32_154 : BitVec 32 := 8#32
  let c0_i32_155 : BitVec 32 := 0#32
  let v273 : BitVec 1 := Scalar.cmpi .eq c8_i32_154 c0_i32_155
  let c1_i32_156 : BitVec 32 := 1#32
  let v274 : BitVec 32 := Scalar.select v273 c1_i32_156 c8_i32_154
  let v275 : BitVec 32 := Scalar.remsi v272 v274
  let c0_i32_158 : BitVec 32 := 0#32
  let v277 : BitVec 1 := Scalar.cmpi .slt v275 c0_i32_158
  let c0_i32_159 : BitVec 32 := 0#32
  let v278 : BitVec 1 := Scalar.cmpi .slt v274 c0_i32_159
  let v279 : BitVec 1 := Scalar.xori v277 v278
  let c0_i32_157 : BitVec 32 := 0#32
  let v276 : BitVec 1 := Scalar.cmpi .ne v275 c0_i32_157
  let v280 : BitVec 1 := Scalar.andi v279 v276
  let v281 : BitVec 32 := Scalar.addi v275 v274
  let v282 : BitVec 32 := Scalar.select v280 v281 v275
  v282.toNat
def k0_dev13 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_167 : BitVec 32 := 6#32
  let v291 : BitVec 32 := Scalar.addi v2 c6_i32_167
  let c8_i32_168 : BitVec 32 := 8#32
  let c0_i32_169 : BitVec 32 := 0#32
  let v292 : BitVec 1 := Scalar.cmpi .eq c8_i32_168 c0_i32_169
  let c1_i32_170 : BitVec 32 := 1#32
  let v293 : BitVec 32 := Scalar.select v292 c1_i32_170 c8_i32_168
  let v294 : BitVec 32 := Scalar.remsi v291 v293
  let c0_i32_172 : BitVec 32 := 0#32
  let v296 : BitVec 1 := Scalar.cmpi .slt v294 c0_i32_172
  let c0_i32_173 : BitVec 32 := 0#32
  let v297 : BitVec 1 := Scalar.cmpi .slt v293 c0_i32_173
  let v298 : BitVec 1 := Scalar.xori v296 v297
  let c0_i32_171 : BitVec 32 := 0#32
  let v295 : BitVec 1 := Scalar.cmpi .ne v294 c0_i32_171
  let v299 : BitVec 1 := Scalar.andi v298 v295
  let v300 : BitVec 32 := Scalar.addi v294 v293
  let v301 : BitVec 32 := Scalar.select v299 v300 v294
  v301.toNat
def k0_dev14 (d0 : Dev nD) : Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_181 : BitVec 32 := 7#32
  let v310 : BitVec 32 := Scalar.addi v2 c7_i32_181
  let c8_i32_182 : BitVec 32 := 8#32
  let c0_i32_183 : BitVec 32 := 0#32
  let v311 : BitVec 1 := Scalar.cmpi .eq c8_i32_182 c0_i32_183
  let c1_i32_184 : BitVec 32 := 1#32
  let v312 : BitVec 32 := Scalar.select v311 c1_i32_184 c8_i32_182
  let v313 : BitVec 32 := Scalar.remsi v310 v312
  let c0_i32_186 : BitVec 32 := 0#32
  let v315 : BitVec 1 := Scalar.cmpi .slt v313 c0_i32_186
  let c0_i32_187 : BitVec 32 := 0#32
  let v316 : BitVec 1 := Scalar.cmpi .slt v312 c0_i32_187
  let v317 : BitVec 1 := Scalar.xori v315 v316
  let c0_i32_185 : BitVec 32 := 0#32
  let v314 : BitVec 1 := Scalar.cmpi .ne v313 c0_i32_185
  let v318 : BitVec 1 := Scalar.andi v317 v314
  let v319 : BitVec 32 := Scalar.addi v313 v312
  let v320 : BitVec 32 := Scalar.select v318 v319 v313
  v320.toNat
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v329 : Index := Scalar.indexCast v2
  let c0_195 : Index := 0#32
  let c0_196 : Index := 0#32
  ![v329.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x32 : Shape := ⟨2, ![256, 32]⟩
abbrev S512x2 : Shape := ⟨2, ![512, 2]⟩
abbrev S32x256x512 : Shape := ⟨3, ![32, 256, 512]⟩
abbrev S512x32 : Shape := ⟨2, ![512, 32]⟩
abbrev S_ : Shape := ⟨0, ![]⟩
abbrev S512 : Shape := ⟨1, ![512]⟩
abbrev S512x1 : Shape := ⟨2, ![512, 1]⟩
abbrev S2 : Shape := ⟨1, ![2]⟩
abbrev S1x2 : Shape := ⟨2, ![1, 2]⟩
abbrev S1 : Shape := ⟨1, ![1]⟩
abbrev S1x1 : Shape := ⟨2, ![1, 1]⟩
abbrev S512x256x512 : Shape := ⟨3, ![512, 256, 512]⟩
abbrev S512x512 : Shape := ⟨2, ![512, 512]⟩

abbrev nBuf : Space → Nat
  | .hbm => 102
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x2, .i32⟩
  | .hbm, ⟨3, _⟩ => ⟨S32x256x512, .bf16⟩
  | .hbm, ⟨4, _⟩ => ⟨S512x256, .f32⟩
  | .hbm, ⟨5, _⟩ => ⟨S256x32, .f32⟩
  | .hbm, ⟨6, _⟩ => ⟨S32x256x512, .f32⟩
  | .hbm, ⟨7, _⟩ => ⟨S512x32, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x32, .f32⟩
  | .hbm, ⟨12, _⟩ => ⟨S512x32, .f32⟩
  | .hbm, ⟨13, _⟩ => ⟨S512x32, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x32, .f32⟩
  | .hbm, ⟨18, _⟩ => ⟨S512x32, .f32⟩
  | .hbm, ⟨19, _⟩ => ⟨S512, .i32⟩
  | .hbm, ⟨20, _⟩ => ⟨S512x1, .i32⟩
  | .hbm, ⟨21, _⟩ => ⟨S512, .i32⟩
  | .hbm, ⟨22, _⟩ => ⟨S512x1, .i32⟩
  | .hbm, ⟨23, _⟩ => ⟨S512, .i32⟩
  | .hbm, ⟨24, _⟩ => ⟨S512x1, .i32⟩
  | .hbm, ⟨25, _⟩ => ⟨S512x1, .i32⟩
  | .hbm, ⟨26, _⟩ => ⟨S512x2, .i32⟩
  | .hbm, ⟨27, _⟩ => ⟨S2, .i32⟩
  | .hbm, ⟨28, _⟩ => ⟨S_, .i32⟩
  | .hbm, ⟨29, _⟩ => ⟨S512x2, .i32⟩
  | .hbm, ⟨30, _⟩ => ⟨S512x2, .i1⟩
  | .hbm, ⟨31, _⟩ => ⟨S1x2, .i32⟩
  | .hbm, ⟨32, _⟩ => ⟨S512x2, .i32⟩
  | .hbm, ⟨33, _⟩ => ⟨S512x2, .i1⟩
  | .hbm, ⟨34, _⟩ => ⟨S512x2, .i1⟩
  | .hbm, ⟨35, _⟩ => ⟨S_, .i1⟩
  | .hbm, ⟨36, _⟩ => ⟨S512, .i1⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512x1, .i32⟩
  | .hbm, ⟨42, _⟩ => ⟨S512x1, .i32⟩
  | .hbm, ⟨43, _⟩ => ⟨S512x2, .i32⟩
  | .hbm, ⟨44, _⟩ => ⟨S2, .i32⟩
  | .hbm, ⟨45, _⟩ => ⟨S_, .i32⟩
  | .hbm, ⟨46, _⟩ => ⟨S512x2, .i32⟩
  | .hbm, ⟨47, _⟩ => ⟨S512x2, .i1⟩
  | .hbm, ⟨48, _⟩ => ⟨S1x2, .i32⟩
  | .hbm, ⟨49, _⟩ => ⟨S512x2, .i32⟩
  | .hbm, ⟨50, _⟩ => ⟨S512x2, .i1⟩
  | .hbm, ⟨51, _⟩ => ⟨S512x2, .i1⟩
  | .hbm, ⟨52, _⟩ => ⟨S_, .i1⟩
  | .hbm, ⟨53, _⟩ => ⟨S512, .i1⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S512x1, .f32⟩
  | .hbm, ⟨61, _⟩ => ⟨S512x1, .i32⟩
  | .hbm, ⟨62, _⟩ => ⟨S1, .i32⟩
  | .hbm, ⟨63, _⟩ => ⟨S_, .i32⟩
  | .hbm, ⟨64, _⟩ => ⟨S512x1, .i32⟩
  | .hbm, ⟨65, _⟩ => ⟨S512x1, .i1⟩
  | .hbm, ⟨66, _⟩ => ⟨S1x1, .i32⟩
  | .hbm, ⟨67, _⟩ => ⟨S512x1, .i32⟩
  | .hbm, ⟨68, _⟩ => ⟨S512x1, .i1⟩
  | .hbm, ⟨69, _⟩ => ⟨S512x1, .i1⟩
  | .hbm, ⟨70, _⟩ => ⟨S_, .i1⟩
  | .hbm, ⟨71, _⟩ => ⟨S512, .i1⟩
  | .hbm, ⟨72, _⟩ => ⟨S512x256x512, .f32⟩
  | .hbm, ⟨73, _⟩ => ⟨S512x256x512, .i1⟩
  | .hbm, ⟨74, _⟩ => ⟨S_, .f32⟩
  | .hbm, ⟨75, _⟩ => ⟨S512x256x512, .f32⟩
  | .hbm, ⟨76, _⟩ => ⟨S512x256x512, .f32⟩
  | .hbm, ⟨77, _⟩ => ⟨S512x512, .f32⟩
  | .hbm, ⟨78, _⟩ => ⟨S512x512, .f32⟩
  | .hbm, ⟨79, _⟩ => ⟨S512x512, .f32⟩
  | .hbm, ⟨80, _⟩ => ⟨S512, .f32⟩
  | .hbm, ⟨81, _⟩ => ⟨S512x1, .f32⟩
  | .hbm, ⟨82, _⟩ => ⟨S512x1, .i32⟩
  | .hbm, ⟨83, _⟩ => ⟨S1, .i32⟩
  | .hbm, ⟨84, _⟩ => ⟨S_, .i32⟩
  | .hbm, ⟨85, _⟩ => ⟨S512x1, .i32⟩
  | .hbm, ⟨86, _⟩ => ⟨S512x1, .i1⟩
  | .hbm, ⟨87, _⟩ => ⟨S1x1, .i32⟩
  | .hbm, ⟨88, _⟩ => ⟨S512x1, .i32⟩
  | .hbm, ⟨89, _⟩ => ⟨S512x1, .i1⟩
  | .hbm, ⟨90, _⟩ => ⟨S512x1, .i1⟩
  | .hbm, ⟨91, _⟩ => ⟨S_, .i1⟩
  | .hbm, ⟨92, _⟩ => ⟨S512, .i1⟩
  | .hbm, ⟨93, _⟩ => ⟨S512x256x512, .f32⟩
  | .hbm, ⟨94, _⟩ => ⟨S512x256x512, .i1⟩
  | .hbm, ⟨95, _⟩ => ⟨S_, .f32⟩
  | .hbm, ⟨96, _⟩ => ⟨S512x256x512, .f32⟩
  | .hbm, ⟨97, _⟩ => ⟨S512x256x512, .f32⟩
  | .hbm, ⟨98, _⟩ => ⟨S512x512, .f32⟩
  | .hbm, ⟨99, _⟩ => ⟨S512x512, .f32⟩
  | .hbm, ⟨100, _⟩ => ⟨S512x512, .f32⟩
  | .hbm, ⟨101, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_c_12 : Ref sig .tc := ⟨.hbm, 83, rfl⟩
abbrev main_c_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_15 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Proof.Protocol.lean ====
/-
# The exchange between the eight devices

Every device multiplies the whole token array by its own four experts, keeps one of the eight row blocks of the
product and sends the other seven, one to each of the other devices. This file fixes the protocol of that exchange:
the cells, who pays each of them and with what, what every landing hands over, and what a core owes while it runs.

For device `c` and an offset index `o < 7` (the offset in the program text is `o + 1`):

* `peer c o = c + o + 1 (mod 8)` is where `c`'s `o`-th signal and its `o`-th transfer go, `back c o = c - o - 1` is
  whose `o`-th transfer lands in `c`'s receive slot `o`.
* The barrier cell of `c` is waited on by `c` for 7, one unit from each other device. Its duty `o` is paid by
  `peer c o`, which hands over its own receive slot `o` — the one `c`'s `o`-th transfer will write — at whatever
  contents, and that it has reached round 0 of the receive cell of that slot.
* The receive cell `o` of `c` is waited on by `c`, for one slot's credit, paid by the transfer of `back c o`; it hands
  over `c`'s receive slot `o` holding block `c` of what `back c o` computed.
* The send cell `o` of `c` is waited on by `c`, paid by its own `o`-th transfer, and gives its send slot back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.ValueIdxCore
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The devices around -/

set_option backward.proofsInPublic true in
def peer (c : Dev nD) (o : Fin 7) : Dev nD := ⟨(c.val + (o.val + 1)) % 8, Nat.mod_lt _ (by decide)⟩
set_option backward.proofsInPublic true in
def back (c : Dev nD) (o : Fin 7) : Dev nD := ⟨(c.val + (7 - o.val)) % 8, Nat.mod_lt _ (by decide)⟩

theorem peer_back (c : Dev nD) (o : Fin 7) : peer (back c o) o = c := by revert c o; decide
theorem back_peer (c : Dev nD) (o : Fin 7) : back (peer c o) o = c := by revert c o; decide
theorem peer_rev (c : Dev nD) (o : Fin 7) : peer (peer c o) o.rev = c := by revert c o; decide
theorem peer_ne (c : Dev nD) (o : Fin 7) : peer c o ≠ c := by revert c o; decide
theorem peer_inj (c : Dev nD) : Function.Injective (peer c) := by revert c; decide

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 0 := by revert c; decide +kernel
theorem dev9_eq (c : Dev nD) : (⟨k0_dev9 c, k0_dev9_lt c⟩ : Dev nD) = peer c 1 := by revert c; decide +kernel
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 3 := by revert c; decide +kernel
theorem dev12_eq (c : Dev nD) : (⟨k0_dev12 c, k0_dev12_lt c⟩ : Dev nD) = peer c 4 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 6 := by revert c; decide +kernel

/-- The `o`-th transfer reads the send slot of the device it goes to. -/
theorem off1_eq (c : Dev nD) (o : Fin 7) : k0_off1 c (BitVec.ofNat 32 (1 + o.val)) = ![(peer c o).val, 0, 0] := by
  revert c o; decide +kernel

/-! ## The slots -/

theorem inb8 (j : Fin 8) : ∀ a, (![j.val, 0, 0] : Fin 3 → Nat) a + S1x64x512.size a ≤ S8x64x512.size a := by revert j; decide
theorem inb7 (o : Fin 7) : ∀ a, (![o.val, 0, 0] : Fin 3 → Nat) a + S1x64x512.size a ≤ S7x64x512.size a := by revert o; decide

abbrev sM : Memref sig .tc .vmem S8x64x512 .bf16 := Memref.whole cc0_scratch0
abbrev rM : Memref sig .tc .vmem S7x64x512 .bf16 := Memref.whole cc0_scratch1

/-- Slot `j` of the send buffer and slot `o` of the receive buffer. -/
def sndM (j : Fin 8) : Memref sig .tc .vmem S64x512 .bf16 :=
  (sM.slice (Rect.unit (s := S8x64x512) ![j.val, 0, 0] S1x64x512.size (inb8 j)) (fun _ => rfl)).squeeze S64x512 squeezes_S1x64x512_S64x512
def rcvM (o : Fin 7) : Memref sig .tc .vmem S64x512 .bf16 :=
  (rM.slice (Rect.unit (s := S7x64x512) ![o.val, 0, 0] S1x64x512.size (inb7 o)) (fun _ => rfl)).squeeze S64x512 squeezes_S1x64x512_S64x512

/-- A slot as the program forms it, at an offset vector that is one of the eight. -/
theorem sndM_of (j : Fin 8) (off : Fin 3 → Nat) (h : off = ![j.val, 0, 0]) (inb) :
    (sM.slice (Rect.unit (s := S8x64x512) off S1x64x512.size inb) (fun _ => rfl)).squeeze S64x512 squeezes_S1x64x512_S64x512 = sndM j := by
  subst h; rfl

def sndSet (j : Fin 8) : Finset S8x64x512.Idx := (Rect.unit (s := S8x64x512) ![j.val, 0, 0] S1x64x512.size (inb8 j)).set
def rcvSet (o : Fin 7) : Finset S7x64x512.Idx := (Rect.unit (s := S7x64x512) ![o.val, 0, 0] S1x64x512.size (inb7 o)).set

theorem sndM_set (j : Fin 8) : (sndM j).view.set = sndSet j :=
  (View.set_reshape _ _).trans (View.set_slice_whole cc0_scratch0 _)
theorem rcvM_set (o : Fin 7) : (rcvM o).view.set = rcvSet o :=
  (View.set_reshape _ _).trans (View.set_slice_whole cc0_scratch1 _)

theorem mem_sndSet (j : Fin 8) (i : S8x64x512.Idx) : i ∈ sndSet j ↔ (i 0).val = j.val := by
  unfold sndSet
  rw [Rect.mem_set_unit]
  constructor
  · intro h
    have h0 := h 0
    have e1 : (![j.val, 0, 0] : Fin 3 → Nat) 0 = j.val := rfl
    have e2 : S1x64x512.size 0 = 1 := rfl
    rw [e1, e2] at h0; omega
  · intro h a
    have h1 : (i 1).val < 64 := (i 1).isLt
    have h2 : (i 2).val < 512 := (i 2).isLt
    fin_cases a
    · exact ⟨le_of_eq h.symm, h.le.trans_lt (Nat.lt_succ_self _)⟩
    · exact ⟨Nat.zero_le _, by show (i 1).val < 0 + 64; omega⟩
    · exact ⟨Nat.zero_le _, by show (i 2).val < 0 + 512; omega⟩
theorem mem_rcvSet (o : Fin 7) (i : S7x64x512.Idx) : i ∈ rcvSet o ↔ (i 0).val = o.val := by
  unfold rcvSet
  rw [Rect.mem_set_unit]
  constructor
  · intro h
    have h0 := h 0
    have e1 : (![o.val, 0, 0] : Fin 3 → Nat) 0 = o.val := rfl
    have e2 : S1x64x512.size 0 = 1 := rfl
    rw [e1, e2] at h0; omega
  · intro h a
    have h1 : (i 1).val < 64 := (i 1).isLt
    have h2 : (i 2).val < 512 := (i 2).isLt
    fin_cases a
    · exact ⟨le_of_eq h.symm, h.le.trans_lt (Nat.lt_succ_self _)⟩
    · exact ⟨Nat.zero_le _, by show (i 1).val < 0 + 64; omega⟩
    · exact ⟨Nat.zero_le _, by show (i 2).val < 0 + 512; omega⟩

theorem snd_disjoint : ∀ j j' : Fin 8, j ≠ j' → Disjoint (sndSet j) (sndSet j') := fun j j' h =>
  Finset.disjoint_left.mpr fun i hi hi' => h (Fin.ext (((mem_sndSet j i).mp hi).symm.trans ((mem_sndSet j' i).mp hi')))
theorem rcv_disjoint : ∀ o o' : Fin 7, o ≠ o' → Disjoint (rcvSet o) (rcvSet o') := fun o o' h =>
  Finset.disjoint_left.mpr fun i hi hi' => h (Fin.ext (((mem_rcvSet o i).mp hi).symm.trans ((mem_rcvSet o' i).mp hi')))
theorem snd_cover : Finset.univ.biUnion sndSet = Finset.univ :=
  Finset.eq_univ_iff_forall.mpr fun i => Finset.mem_biUnion.mpr ⟨i 0, Finset.mem_univ _, (mem_sndSet _ i).mpr rfl⟩
theorem rcv_cover : Finset.univ.biUnion rcvSet = Finset.univ :=
  Finset.eq_univ_iff_forall.mpr fun i => Finset.mem_biUnion.mpr ⟨i 0, Finset.mem_univ _, (mem_rcvSet _ i).mpr rfl⟩

/-! ## The cells -/

/-- The runtime's barrier semaphore, and the send and receive semaphores of offset index `o`. -/
abbrev barS : Sem sig := (SemArray.scalar (sig.barrier 0 rfl) : Sems sig S_).sem
set_option backward.proofsInPublic true in
def sndS (o : Fin 7) : DmaSem sig := (⟨5 + o.val, by have := o.isLt; omega⟩ : Fin 19)
set_option backward.proofsInPublic true in
def rcvS (o : Fin 7) : DmaSem sig := (⟨12 + o.val, by have := o.isLt; omega⟩ : Fin 19)

/-- A device's cells: the barrier, the sends, the receives. -/
abbrev Slot : Type := Unit ⊕ (Fin 7 ⊕ Fin 7)

abbrev csem : Slot → SemLoc sig
  | .inl _ => .reg barS
  | .inr (.inl o) => .dma (sndS o)
  | .inr (.inr o) => .dma (rcvS o)

/-- Which cell of the exchange a semaphore is, if any. -/
def role : SemLoc sig → Option Slot
  | .reg s => if s = barS then some (.inl ()) else none
  | .dma q =>
    if h : 5 ≤ q.val ∧ q.val < 12 then some (.inr (.inl ⟨q.val - 5, by omega⟩))
    else if h : 12 ≤ q.val ∧ q.val < 19 then some (.inr (.inr ⟨q.val - 12, by omega⟩)) else none

theorem role_csem : ∀ k : Slot, role (csem k) = some k := by decide

theorem csem_inj : Function.Injective csem := fun k k' h =>
  Option.some.inj ((role_csem k).symm.trans ((congrArg role h).trans (role_csem k')))

abbrev kcell (ck : Dev nD × Slot) : GSem nD τ sig := ((ck.1 : Thread nD τ), csem ck.2)
abbrev barCell (c : Dev nD) : GSem nD τ sig := ((c : Thread nD τ), .reg barS)
abbrev sndCell (c : Dev nD) (o : Fin 7) : GSem nD τ sig := ((c : Thread nD τ), .dma (sndS o))
abbrev rcvCell (c : Dev nD) (o : Fin 7) : GSem nD τ sig := ((c : Thread nD τ), .dma (rcvS o))

theorem kcell_injective : Function.Injective kcell := fun a b h => by
  obtain ⟨c, k⟩ := a; obtain ⟨c', k'⟩ := b
  have h1 : c = c' := by
    have := congrArg (fun g : GSem nD τ sig => g.1.1) h
    exact this
  have h2 : k = k' := csem_inj (congrArg (fun g : GSem nD τ sig => g.2) h)
  rw [h1, h2]

abbrev N : ℕ := (rcvM 0).view.dmaCredit
theorem N_pos : 0 < N := View.dmaCredit_pos _ (by decide)

/-! ## Contents -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s four input stages hold: tokens, router weights, expert indices, its own experts' weights. -/
def xIn (c : Dev nD) : (cc0_stg0_0 : Ref sig .tc).ty.Contents (Elt F) :=
  (win0_0.blk (0 : Fin 1)).view.read (Elt F) ((s₀ m ρ).mem ((c : Thread nD τ).loc main_arg0))
def wIn (c : Dev nD) : (cc0_stg1_0 : Ref sig .tc).ty.Contents (Elt F) :=
  (win0_1.blk (0 : Fin 1)).view.read (Elt F) ((s₀ m ρ).mem ((c : Thread nD τ).loc main_arg1))
def iIn (c : Dev nD) : (cc0_stg2_0 : Ref sig .tc).ty.Contents (Elt F) :=
  (win0_2.blk (0 : Fin 1)).view.read (Elt F) ((s₀ m ρ).mem ((c : Thread nD τ).loc main_arg2))
def eIn (c : Dev nD) : (cc0_stg3_0 : Ref sig .tc).ty.Contents (Elt F) :=
  (win0_3.blk (0 : Fin 1)).view.read (Elt F) ((s₀ m ρ).mem ((c : Thread nD τ).loc main_arg3))

/-- The word the kernel computes its own experts' numbers from. -/
def meWord (c : Dev nD) : BitVec 32 := Scalar.remsi (Scalar.divsi (Dev.word c) 1#32) 8#32

abbrev iM : Memref sig .tc .vmem S512x2 .i32 := Memref.whole cc0_stg2_0

/-- The two columns of the expert indices. -/
def idxCol0 (f : (cc0_stg2_0 : Ref sig .tc).ty.Contents (Elt F)) : Vec F S512x1 .i32 :=
  (iM : Memref sig .tc .vmem S512x2 .i32).view.readAt (Elt F) (Rect.unit (s := S512x2) ![0, 0] S512x1.size inb_S512x2_S512x1_0_0).toLoadRect f
def idxCol1 (f : (cc0_stg2_0 : Ref sig .tc).ty.Contents (Elt F)) : Vec F S512x1 .i32 :=
  (iM : Memref sig .tc .vmem S512x2 .i32).view.readAt (Elt F) (Rect.unit (s := S512x2) ![0, 1] S512x1.size inb_S512x2_S512x1_0_1).toLoadRect f

/-- The kernel's product on one device, a function of what its stages hold and of its own word. -/
def accOf (me : BitVec 32) (x : Vec F S512x256 .bf16) (w : Vec F S256x32 .bf16) (i0 i1 : Vec F S512x1 .i32) (e : Vec F S4x256x512 .bf16) :
    FVec F S512x512 .f32 :=
  k0_pay9 (k0_pay1 x) (k0_pay4 (k0_pay2 x w) (k0_pay3 i0 i1))
    (k0_pay5 me (k0_pay1 x) (k0_pay2 x w) (iota .tc S512x32 32 [1] iota_S512x32_d1_w32) (k0_pay3 i0 i1))
    (k0_pay6 me (k0_pay1 x) (k0_pay2 x w) (iota .tc S512x32 32 [1] iota_S512x32_d1_w32) (k0_pay3 i0 i1))
    (k0_pay7 me (k0_pay1 x) (k0_pay2 x w) (iota .tc S512x32 32 [1] iota_S512x32_d1_w32) (k0_pay3 i0 i1))
    (k0_pay8 me (iota .tc S512x32 32 [1] iota_S512x32_d1_w32)) (Scalar.ofBits .f32 0x00000000#32) e

def accAt (c : Dev nD) : FVec F S512x512 .f32 :=
  accOf (meWord c) (xIn m ρ c) (wIn m ρ c) (idxCol0 (iIn m ρ c)) (idxCol1 (iIn m ρ c)) (eIn m ρ c)

/-- Row `r` of slot `j`: row `64 j + r` of the product. -/
def slotRow (j : Fin 8) (r : Fin 64) : Fin 512 := ⟨64 * j.val + r.val, by have := j.isLt; have := r.isLt; omega⟩

/-- The send buffer once the eight row blocks are stored, each rounded to the exchange's type. -/
def sbuf (c : Dev nD) : (cc0_scratch0 : Ref sig .tc).ty.Contents (Elt F) :=
  fun i : S8x64x512.Idx => truncf (F := F) .bf16 (accAt m ρ c) bitsLt_bf16_f32 (ValueIdx.ix2 (slotRow (i 0) (i 1)) (i 2))

/-- The receive buffer once every transfer has landed: slot `o` holds block `c` of what `back c o` computed. -/
def rbuf (c : Dev nD) : (cc0_scratch1 : Ref sig .tc).ty.Contents (Elt F) :=
  fun i : S7x64x512.Idx => sbuf m ρ (back c (i 0)) (ValueIdx.ix3 c (i 1) (i 2))

theorem rbuf_peer (c : Dev nD) (o : Fin 7) (i : S7x64x512.Idx) (hi : i 0 = o) :
    rbuf m ρ (peer c o) i = sbuf m ρ c (ValueIdx.ix3 (peer c o) (i 1) (i 2)) := by
  subst hi
  exact congrArg (fun d => sbuf m ρ d (ValueIdx.ix3 (peer c (i 0)) (i 1) (i 2))) (back_peer c (i 0))

/-- Reading the landed slot and reading the slot it was sent from give the same block. -/
theorem read_landed (c : Dev nD) (o : Fin 7) :
    (rcvM o).view.read (Elt F) (rbuf m ρ (peer c o)) = (sndM (peer c o)).view.read (Elt F) (sbuf m ρ c) := by
  funext x
  have key : ∀ y : S1x64x512.Idx,
      rbuf m ρ (peer c o) ((Rect.unit (s := S7x64x512) ![o.val, 0, 0] S1x64x512.size (inb7 o)).emb y)
        = sbuf m ρ c ((Rect.unit (s := S8x64x512) ![(peer c o).val, 0, 0] S1x64x512.size (inb8 (peer c o))).emb y) := by
    intro y
    have hy : (y 0).val = 0 := by have := (y 0).isLt; have e : S1x64x512.size 0 = 1 := rfl; omega
    rw [rbuf_peer m ρ c o _ (Fin.ext (by show o.val + 1 * (y 0).val = o.val; omega))]
    congr 1
    funext a
    match a with
    | ⟨0, _⟩ => exact Fin.ext (by show (peer c o).val = (peer c o).val + 1 * (y 0).val; omega)
    | ⟨1, _⟩ => rfl
    | ⟨2, _⟩ => rfl
  exact key _

/-- What a transfer leaves in a slot is the canonical contents there. -/
theorem landed_congr {sp : Space} {s : Shape} {e : EltTy} {κ : Kind} (v : View sig κ sp s e) (g f : v.ty.Contents (Elt F))
    (w : s.Idx → Elt F e) (h : v.read (Elt F) g = w) : ∀ i ∈ v.set, v.write (Elt F) f w Finset.univ i = g i := by
  intro i hi
  obtain ⟨x, -, rfl⟩ := Finset.mem_map.mp hi
  subst h
  rw [View.write_read_eq_piecewise]
  exact Finset.piecewise_eq_of_mem _ _ _ (Finset.mem_map_of_mem _ (Finset.mem_univ x))

/-! ## The payloads -/

def sndPts (c : Dev nD) (j : Fin 8) (f : Buf (Elt F) ((c : Thread nD τ).loc cc0_scratch0)) : sProp 𝕄 :=
  ((c : Thread nD τ).loc cc0_scratch0) ↦[sndSet j]{fullShare} f
def rcvPts (c : Dev nD) (o : Fin 7) (f : Buf (Elt F) ((c : Thread nD τ).loc cc0_scratch1)) : sProp 𝕄 :=
  ((c : Thread nD τ).loc cc0_scratch1) ↦[rcvSet o]{fullShare} f

instance sndPts_storable (c : Dev nD) (j) (f) : BI.Storable (upEmb : UEmb _ 𝕄) (sndPts (F := F) c j f) := by unfold sndPts; infer_instance
instance rcvPts_storable (c : Dev nD) (o) (f) : BI.Storable (upEmb : UEmb _ 𝕄) (rcvPts (F := F) c o f) := by unfold rcvPts; infer_instance

/-- The send buffer whole is its eight slots; -/
theorem snd_split (c : Dev nD) (f : Buf (Elt F) ((c : Thread nD τ).loc cc0_scratch0)) :
    (((c : Thread nD τ).loc cc0_scratch0) ↦{fullShare} f : sProp 𝕄) = bigSep Finset.univ fun j : Fin 8 => sndPts c j f :=
  Ring.pointsTo_blocks (ℓ := (c : Thread nD τ).loc cc0_scratch0) sndSet snd_disjoint snd_cover f
/-- the receive buffer its seven. -/
theorem rcv_split (c : Dev nD) (f : Buf (Elt F) ((c : Thread nD τ).loc cc0_scratch1)) :
    (((c : Thread nD τ).loc cc0_scratch1) ↦{fullShare} f : sProp 𝕄) = bigSep Finset.univ fun o : Fin 7 => rcvPts c o f :=
  Ring.pointsTo_blocks (ℓ := (c : Thread nD τ).loc cc0_scratch1) rcvSet rcv_disjoint rcv_cover f

def barPay (c : Dev nD) (o : Fin 7) : sProp 𝕄 := iprop((∃ f, rcvPts (peer c o) o f) ∗ reached ER (rcvCell (peer c o) o) 0)
def rcvPay (c : Dev nD) (o : Fin 7) : sProp 𝕄 := rcvPts c o (rbuf m ρ c)
def sndPay (c : Dev nD) (o : Fin 7) : sProp 𝕄 := sndPts c (peer c o) (sbuf m ρ c)

instance barPay_storable (c : Dev nD) (o) : BI.Storable (upEmb : UEmb _ 𝕄) (barPay (F := F) c o) := by unfold barPay; infer_instance
instance rcvPay_storable (c : Dev nD) (o) : BI.Storable (upEmb : UEmb _ 𝕄) (rcvPay (F := F) m ρ c o) := rcvPts_storable _ _ _
instance sndPay_storable (c : Dev nD) (o) : BI.Storable (upEmb : UEmb _ 𝕄) (sndPay (F := F) m ρ c o) := sndPts_storable _ _ _

/-! ## The schedule -/

/-- The duties of a cell by its role, the amount each lands and what it hands over. -/
def dutiesOf : Option Slot → Finset (Fin 7)
  | none => ∅
  | some (.inl _) => Finset.univ
  | some (.inr _) => {0}
def amountOf : Option Slot → ℕ
  | some (.inl _) => 1
  | _ => N
def payOf (c : Dev nD) (d : Fin 7) : Option Slot → sProp 𝕄
  | none => iprop(emp)
  | some (.inl _) => barPay c d
  | some (.inr (.inl o)) => sndPay m ρ c o
  | some (.inr (.inr o)) => rcvPay m ρ c o

def Rd : Rounds.Schedule (GSem nD τ sig) (Fin 7) 𝕄 where
  duties g r := if r = 0 ∧ g.1.2 = .tc then dutiesOf (role g.2) else ∅
  unitless _ := False
  amount g _ _ := amountOf (role g.2)
  payload g _ d := payOf m ρ g.1.1 d (role g.2)
  amount_pos g _ _ _ := by
    unfold amountOf
    split
    · exact Nat.one_pos
    · exact N_pos

instance Rd_payload_storable (g : GSem nD τ sig) (r : ℕ) (d : Fin 7) :
    BI.Storable (upEmb : UEmb _ 𝕄) ((Rd (F := F) m ρ).payload g r d) := by
  show BI.Storable upEmb (payOf m ρ g.1.1 d (role g.2))
  unfold payOf
  split <;> infer_instance

section Sched
variable (c : Dev nD) (o : Fin 7)

theorem role_bar : role (.reg barS : SemLoc sig) = some (.inl ()) := role_csem (.inl ())
theorem role_snd : role (.dma (sndS o) : SemLoc sig) = some (.inr (.inl o)) := role_csem (.inr (.inl o))
theorem role_rcv : role (.dma (rcvS o) : SemLoc sig) = some (.inr (.inr o)) := role_csem (.inr (.inr o))

theorem duties_cell (k : Slot) : (Rd (F := F) m ρ).duties (kcell (c, k)) 0 = dutiesOf (some k) := by
  unfold Rd
  dsimp only
  rw [if_pos ⟨rfl, rfl⟩, role_csem]
theorem duties_bar : (Rd (F := F) m ρ).duties (barCell c) 0 = Finset.univ := duties_cell m ρ c (.inl ())
theorem duties_snd : (Rd (F := F) m ρ).duties (sndCell c o) 0 = {0} := duties_cell m ρ c (.inr (.inl o))
theorem duties_rcv : (Rd (F := F) m ρ).duties (rcvCell c o) 0 = {0} := duties_cell m ρ c (.inr (.inr o))
theorem duties_later (g : GSem nD τ sig) : ∀ r, 1 ≤ r → (Rd (F := F) m ρ).duties g r = ∅ :=
  fun r hr => if_neg fun h => by omega

theorem amount_bar (d : Fin 7) : (Rd (F := F) m ρ).amount (barCell c) 0 d = 1 := by
  exact congrArg amountOf (role_bar)
theorem amount_snd (d : Fin 7) : (Rd (F := F) m ρ).amount (sndCell c o) 0 d = N := by
  exact congrArg amountOf (role_snd o)
theorem amount_rcv (d : Fin 7) : (Rd (F := F) m ρ).amount (rcvCell c o) 0 d = N := by
  exact congrArg amountOf (role_rcv o)

theorem payload_bar (d : Fin 7) : (Rd (F := F) m ρ).payload (barCell c) 0 d = barPay c d := by
  exact congrArg (payOf m ρ c d) (role_bar)
theorem payload_snd (d : Fin 7) : (Rd (F := F) m ρ).payload (sndCell c o) 0 d = sndPay m ρ c o := by
  exact congrArg (payOf m ρ c d) (role_snd o)
theorem payload_rcv (d : Fin 7) : (Rd (F := F) m ρ).payload (rcvCell c o) 0 d = rcvPay m ρ c o := by
  exact congrArg (payOf m ρ c d) (role_rcv o)

theorem expect_bar : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_snd : (Rd (F := F) m ρ).expect (sndCell c o) 0 = N := by
  unfold Schedule.expect Schedule.amountOf; rw [duties_snd, Finset.sum_singleton, amount_snd]
theorem expect_rcv : (Rd (F := F) m ρ).expect (rcvCell c o) 0 = N := by
  unfold Schedule.expect Schedule.amountOf; rw [duties_rcv, Finset.sum_singleton, amount_rcv]

theorem rest_bar : bigSep ((Rd (F := F) m ρ).duties (barCell c) 0 \ ∅) (fun d => (Rd (F := F) m ρ).payload (barCell c) 0 d)
    = bigSep Finset.univ fun d => barPay c d := by
  rw [Finset.sdiff_empty, duties_bar]; exact bigSep_congr fun d _ => payload_bar m ρ c d
theorem rest_snd : bigSep ((Rd (F := F) m ρ).duties (sndCell c o) 0 \ ∅) (fun d => (Rd (F := F) m ρ).payload (sndCell c o) 0 d)
    = sndPay m ρ c o := by
  rw [Finset.sdiff_empty, duties_snd, bigSep_singleton, payload_snd]
theorem rest_rcv : bigSep ((Rd (F := F) m ρ).duties (rcvCell c o) 0 \ ∅) (fun d => (Rd (F := F) m ρ).payload (rcvCell c o) 0 d)
    = rcvPay m ρ c o := by
  rw [Finset.sdiff_empty, duties_rcv, bigSep_singleton, payload_rcv]

end Sched

/-! ## Offset indices from `n` on -/

def tail (n : ℕ) : Finset (Fin 7) := Finset.univ.filter fun o => n ≤ o.val
def head (n : ℕ) : Finset (Fin 7) := Finset.univ.filter fun o => o.val < n

theorem tail_zero : tail 0 = Finset.univ := by decide
theorem tail_seven : tail 7 = ∅ := by decide
theorem head_zero : head 0 = ∅ := by decide
theorem head_seven : head 7 = Finset.univ := by decide
theorem tail_step : ∀ o : Fin 7, tail o.val = insert o (tail (o.val + 1)) := by decide
theorem tail_notin : ∀ o : Fin 7, o ∉ tail (o.val + 1) := by decide
theorem head_step : ∀ o : Fin 7, head (o.val + 1) = insert o (head o.val) := by decide
theorem head_notin : ∀ o : Fin 7, o ∉ head o.val := by decide

theorem tail_take (Φ : Fin 7 → sProp 𝕄) (o : Fin 7) : bigSep (tail o.val) Φ = iprop(Φ o ∗ bigSep (tail (o.val + 1)) Φ) := by
  rw [tail_step, bigSep_insert (tail_notin o)]; rfl
theorem head_put (Φ : Fin 7 → sProp 𝕄) (o : Fin 7) : bigSep (head (o.val + 1)) Φ = iprop(Φ o ∗ bigSep (head o.val) Φ) := by
  rw [head_step, bigSep_insert (head_notin o)]; rfl

/-! ## What each core owes; the levels -/

/-- What `c` still owes from offset index `n` on: the receive credits and the barrier units. -/
def owedR (c : Dev nD) (n : ℕ) : CellTallies nD τ sig Unit := ∑ o ∈ tail n, tallyAt (rcvCell (peer c o) o) () N
def owedB (c : Dev nD) (n : ℕ) : CellTallies nD τ sig Unit := ∑ o ∈ tail n, tallyAt (barCell (peer c o)) () 1
def O₀ (c : Dev nD) : CellTallies nD τ sig Unit := owedR c 0 + owedB c 0

theorem owedR_step (c : Dev nD) (o : Fin 7) : owedR c o.val = owedR c (o.val + 1) + tallyAt (rcvCell (peer c o) o) () N := by
  unfold owedR; rw [tail_step, Finset.sum_insert (tail_notin o), add_comm]
theorem owedB_step (c : Dev nD) (o : Fin 7) : owedB c o.val = owedB c (o.val + 1) + tallyAt (barCell (peer c o)) () 1 := by
  unfold owedB; rw [tail_step, Finset.sum_insert (tail_notin o), add_comm]
theorem owedR_end (c : Dev nD) : owedR c 7 = 0 := by unfold owedR; rw [tail_seven, Finset.sum_empty]
theorem owedB_end (c : Dev nD) : owedB c 7 = 0 := by unfold owedB; rw [tail_seven, Finset.sum_empty]

def L (g : GSem nD τ sig) : Finset Unit := if g.1.2 = .tc then {()} else ∅
/-- Barrier cells at 1, receive cells at 2, everything else at 0. -/
def lvOf : Option Slot → ℕ
  | some (.inl _) => 1
  | some (.inr (.inr _)) => 2
  | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]; rfl
theorem lv_rcv (c : Dev nD) (o : Fin 7) (u : Unit) : lv (rcvCell c o) u = 2 := by unfold lv; rw [role_rcv]; rfl

theorem sum_tally_pos {f : Fin 7 → GSem nD τ sig} {k : ℕ} {T : Finset (Fin 7)} {g : GSem nD τ sig} {u : Unit}
    (h : 0 < (∑ o ∈ T, tallyAt (f o) () k : CellTallies nD τ sig Unit) g u) : ∃ o, g = f o := by
  by_contra hn
  rw [not_exists] at hn
  rw [Finset.sum_apply, Finsupp.finset_sum_apply, Finset.sum_eq_zero] at h
  · exact Nat.lt_irrefl 0 h
  · intro o _
    rw [tallyAt_apply, if_neg (fun h' => hn o h'.1)]

theorem owedR_pos {c : Dev nD} {n : ℕ} {g : GSem nD τ sig} {u : Unit} (h : 0 < owedR c n g u) : ∃ o, g = rcvCell (peer c o) o :=
  sum_tally_pos (f := fun o => rcvCell (peer c o) o) h
theorem O₀_pos {c : Dev nD} {g : GSem nD τ sig} {u : Unit} (h : 0 < O₀ c g u) :
    (∃ o, g = rcvCell (peer c o) o) ∨ (∃ o, g = barCell (peer c o)) := by
  unfold O₀ at h
  rw [Pi.add_apply, Finsupp.add_apply] at h
  rcases Nat.eq_zero_or_pos (owedR c 0 g u) with h0 | h0
  · rw [h0, zero_add] at h
    exact .inr (sum_tally_pos (f := fun o => barCell (peer c o)) h)
  · exact .inl (owedR_pos h0)

theorem mayWait_stage (c : Dev nD) (q : DmaSem sig) (hq : role (.dma q : SemLoc sig) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨o, rfl⟩ | ⟨o, rfl⟩ <;> exact Finset.mem_singleton_self _)
      (fun p hp => by rw [Finset.mem_singleton.mp hp]; unfold lv; rw [hq]; exact le_refl _)
      (fun g u hg => by
        rcases O₀_pos hg with ⟨o, rfl⟩ | ⟨o, rfl⟩
        · rw [lv_rcv]; decide
        · rw [lv_bar]; decide)
  · rw [MayWait_zero]; iintro -; iempintro

/-- At its barrier wait a device owes receive credits only: receive cells, above its barrier cell. -/
theorem mayWait_bar (c : Dev nD) : (levAts L lv : sProp 𝕄) ⊢ MayWait (c : Thread nD τ) (.reg barS) () (owedR c 0) :=
  MayOwe.of_cut (L := L) (lev := lv) 1 (fun p hp => by rw [Finset.mem_singleton.mp hp, L_tc]; exact Finset.mem_singleton_self _)
    (fun g u hg => by obtain ⟨o, rfl⟩ := owedR_pos hg; exact Finset.mem_singleton_self _)
    (fun p hp => by rw [Finset.mem_singleton.mp hp]; exact le_of_eq (lv_bar c ()))
    (fun g u hg => by obtain ⟨o, rfl⟩ := owedR_pos hg; rw [lv_rcv]; decide)

end Cert.Moe

end
-- ==== Proof.Steps.lean ====
/-
# One rule per kind of step

The kernel's program repeats seven kinds of step: a signal to another device's barrier, the barrier wait, a load and a
store of a slot of the send buffer, a transfer, a wait for a landing and a wait for a departure. Each gets one rule here,
at a symbolic device and offset index, over the bundle of what the core holds before and after it. The semaphores,
devices and memory references a step names come as variables with the equation that says which ones they are.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

section Rules

variable (K : Dev nD × Slot → ℕ)

/-- What every core knows of every cell: its invariant, and that its round 0 is reached. -/
def recs : sProp 𝕄 :=
  bigSep Finset.univ fun ck : Dev nD × Slot => iprop(cellInv ER (Rd m ρ) (K ck) (kcell ck) ∗ reached ER (kcell ck) 0)

instance recs_persistent : Persistent (recs (F := F) m ρ K) := by unfold recs; infer_instance

theorem recs_inv (ck : Dev nD × Slot) : recs (F := F) m ρ K ⊢ cellInv ER (Rd m ρ) (K ck) (kcell ck) := by
  unfold recs
  exact (bigSep_elim (Finset.mem_univ ck)).trans (sep_and.trans and_elimL)
theorem recs_reached (ck : Dev nD × Slot) : recs (F := F) m ρ K ⊢ (reached ER (kcell ck) 0 : sProp 𝕄) := by
  unfold recs
  exact (bigSep_elim (Finset.mem_univ ck)).trans (sep_and.trans and_elimR)

abbrev kBar (c : Dev nD) : ℕ := K (c, .inl ())
abbrev kSnd (c : Dev nD) (o : Fin 7) : ℕ := K (c, .inr (.inl o))
abbrev kRcv (c : Dev nD) (o : Fin 7) : ℕ := K (c, .inr (.inr o))

/-- A core owing `O`, whatever it has waited for. -/
def owing (c : Dev nD) (O : CellTallies nD τ sig Unit) : sProp 𝕄 := iprop(∃ W : Waits sig Unit, owes (c : Thread nD τ) O W)

/-! ## Signals -/

def sigRes (c : Dev nD) (o : Fin 7) : sProp 𝕄 :=
  iprop(dutyTok ER (barCell (peer c o)) 0 o.rev ∗ ∃ f, rcvPts c o.rev f)

/-- Before the `n`-th signal. -/
def SigSt (c : Dev nD) (n : ℕ) : sProp 𝕄 :=
  iprop(owing c (owedR c 0 + owedB c n) ∗ bigSep (tail n) (sigRes (F := F) c))

theorem barPay_mine (c : Dev nD) (o : Fin 7) :
    (iprop((∃ f, rcvPts c o.rev f) ∗ reached ER (rcvCell c o.rev) 0) : sProp 𝕄) = barPay (peer c o) o.rev := by
  unfold barPay; rw [peer_rev]

theorem step_signal (c : Dev nD) (o : Fin 7) (n n' : ℕ) (hn : o.val = n) (hn' : n + 1 = n') (d : Dev nD) (hd : d = peer c o)
    (k' : ℕ) (hk : 1 = k') {α : Type} {Q : α → sProp 𝕄} {k : PUnit → Prog (TpuEff nD τ sig (Elt F) Λ₀ .tc) α} :
    iprop(recs (F := F) m ρ K ∗ SigSt c n)
      ⊢ iprop((SigSt c n' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS k') k) Q) := by
  subst hn hn' hd hk
  unfold SigSt owing
  rw [tail_take, owedB_step]
  conv_lhs => unfold sigRes
  iintro ⟨#HR, ⟨%W, HO⟩, ⟨Ht, Hs⟩, Hrest⟩ Hk
  ihave #HIb := recs_inv m ρ K (peer c o, .inl ()) $$ HR
  ihave #HRb := recs_reached m ρ K (peer c o, .inl ()) $$ HR
  ihave #HRv := recs_reached m ρ K (c, .inr (.inr o.rev)) $$ HR
  iapply (Rounds.wp_signal 𝒱₀ ER (Rd m ρ) (c : Thread nD τ) none (dst := (peer c o : Thread nD τ)) (κ := kBar K (peer c o))
      (d := o.rev) (by rw [duties_bar]; exact Finset.mem_univ _) (amount_bar m ρ (peer c o) o.rev) ()
      (owedR c 0 + owedB c (o.val + 1)) (by rw [add_assoc])) $$ [HO Ht Hs]
  · isplitr; · iexact HIb
    isplitl [HO]; · iexact HO
    isplitl [Ht]; · iexact Ht
    isplitl [Hs]
    · rw [payload_bar, ← barPay_mine]
      isplitl [Hs]; · iexact Hs
      iexact HRv
    · iexact HRb
  iintro HO
  iapply Hk
  isplitl [HO]
  · iexists W; iexact HO
  · iexact Hrest

/-! ## The barrier wait -/

theorem step_barrier (c : Dev nD) (k' : ℕ) (hk : k' = 7) {α : Type} {Q : α → sProp 𝕄}
    {k : PUnit → Prog (TpuEff nD τ sig (Elt F) Λ₀ .tc) α} :
    iprop(recs (F := F) m ρ K ∗ levAts L lv ∗ SigSt c 7 ∗ cred (tallyAt (barCell c) () 7) ∗ atPos ER (barCell c) 0 ∅ 0)
      ⊢ iprop(((owing c (owedR c 0) ∗ semVal (barCell c) 0 ∗ bigSep Finset.univ fun o => barPay (F := F) c o)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold SigSt owing
  rw [owedB_end, add_zero]
  iintro ⟨#HR, #Hlev, ⟨⟨%W, HO⟩, -⟩, Hc, Hat⟩ Hk
  ihave #HI := recs_inv m ρ K (c, .inl ()) $$ HR
  iapply (Rounds.wp_wait_rest_token 𝒱₀ ER (Rd m ρ) (c : Thread nD τ) none (κ := kBar K c)
      (wpE_semWait_eq 𝒱₀ (c : Thread nD τ) none Set.univ) (Set.mem_univ _) () (O := owedR c 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (kBar K c)) (fun h => h) (R := 0 + 1) (duties_later m ρ (barCell c))) $$ [Hat] with Hz
  · isplitr; · iexact HI
    iexact Hat
  iapply Hk
  isplitl [HO]; · iexists _; iexact HO
  isplitl [Hz] <;> iassumption

/-! ## The send buffer filled -/

/-- The first `n` slots of a buffer are the product's row blocks. -/
def Agree (c : Dev nD) (n : ℕ) (f : (cc0_scratch0 : Ref sig .tc).ty.Contents (Elt F)) : Prop :=
  ∀ i : S8x64x512.Idx, (i 0).val < n → f i = sbuf m ρ c i

def FillSt (c : Dev nD) (n : ℕ) : sProp 𝕄 :=
  iprop(∃ f : Buf (Elt F) ((c : Thread nD τ).loc cc0_scratch0), ⌜Agree m ρ c n f⌝ ∗ (((c : Thread nD τ).loc cc0_scratch0) ↦{fullShare} f))

theorem fill_end (c : Dev nD) : FillSt (F := F) m ρ c 8 ⊢ (((c : Thread nD τ).loc cc0_scratch0) ↦{fullShare} (sbuf m ρ c) : sProp 𝕄) := by
  unfold FillSt
  iintro ⟨%f, %h, H⟩
  have e : f = sbuf m ρ c := funext fun i => h i (i 0).isLt
  rw [← e]; iexact H

theorem step_fill_load (c : Dev nD) (n : ℕ) {r : LoadRect S8x64x512} {hl : sM.view.LoadsAt r} {α : Type} {Q : α → sProp 𝕄}
    {k : (r.shape.Idx → Elt F .bf16) → Prog (TpuEff nD τ sig (Elt F) Λ₀ .tc) α} :
    FillSt (F := F) m ρ c n
      ⊢ iprop((∀ v, FillSt (F := F) m ρ c n -∗ wp frame (wpE (defs₀ (F := F)) 𝒱₀ (c : Thread nD τ) none) Set.univ (k v) Q)
          -∗ wp frame (wpE (defs₀ (F := F)) 𝒱₀ (c : Thread nD τ) none) Set.univ (.op (.load sM r hl) k) Q) := by
  conv_lhs => unfold FillSt
  iintro ⟨%f, %h, H⟩ Hk
  iapply (wp_load 𝒱₀ (c : Thread nD τ) none Set.univ (m := sM) (Finset.subset_univ _)) $$ H; iintro H
  iapply Hk
  unfold FillSt
  iexists f
  isplitr; · ipureintro; exact h
  iexact H

abbrev slotRect (j : Fin 8) : Rect S8x64x512 := Rect.unit (s := S8x64x512) ![j.val, 0, 0] S1x64x512.size (inb8 j)

theorem agree_write (c : Dev nD) (j : Fin 8) (f : (cc0_scratch0 : Ref sig .tc).ty.Contents (Elt F)) (h : Agree m ρ c j.val f) :
    Agree m ρ c (j.val + 1) ((sM.access (slotRect j)).write (Elt F) f ((sM.access (slotRect j)).read (Elt F) (sbuf m ρ c)) Finset.univ) := by
  intro i hi
  rw [View.write_read_eq_piecewise]
  by_cases hj : (i 0).val = j.val
  · refine Finset.piecewise_eq_of_mem _ _ _ ?_
    show i ∈ (sM.access (slotRect j)).set
    rw [show (sM.access (slotRect j)).set = sndSet j from View.set_slice_whole cc0_scratch0 _]
    exact (mem_sndSet j i).mpr hj
  · refine (Finset.piecewise_eq_of_notMem _ _ _ ?_).trans (h i (by omega))
    show i ∉ (sM.access (slotRect j)).set
    rw [show (sM.access (slotRect j)).set = sndSet j from View.set_slice_whole cc0_scratch0 _]
    exact fun hm => hj ((mem_sndSet j i).mp hm)

theorem step_fill_store (c : Dev nD) (j : Fin 8) (n n' : ℕ) (hn : j.val = n) (hn' : n + 1 = n')
    {r : Rect S8x64x512} (hr : r = slotRect j) {w : r.shape.Idx → Elt F .bf16}
    (hw : (sM.access r).read (Elt F) (sbuf m ρ c) = w)
    {Mk : Finset r.shape.Idx} (hMk : Mk = Finset.univ) {hx : (sM.access r).Stores Mk} {hm}
    {α : Type} {Q : α → sProp 𝕄} {k : PUnit → Prog (TpuEff nD τ sig (Elt F) Λ₀ .tc) α} :
    FillSt (F := F) m ρ c n
      ⊢ iprop((FillSt (F := F) m ρ c n' -∗ wp frame (wpE (defs₀ (F := F)) 𝒱₀ (c : Thread nD τ) none) Set.univ (k ⟨⟩) Q)
          -∗ wp frame (wpE (defs₀ (F := F)) 𝒱₀ (c : Thread nD τ) none) Set.univ (.op (.store sM r w Mk hx hm) k) Q) := by
  subst hn hn' hr hw hMk
  conv_lhs => unfold FillSt
  iintro ⟨%f, %h, H⟩ Hk
  iapply (wp_store 𝒱₀ (c : Thread nD τ) none Set.univ (m := sM) (r := slotRect j) (w := (sM.access (slotRect j)).read (Elt F) (sbuf m ρ c))
    (Mk := Finset.univ) (f := f) (Finset.subset_univ _)) $$ H; iintro H
  iapply Hk
  unfold FillSt
  iexists _
  isplitr; · ipureintro; exact agree_write m ρ c j f h
  iexact H

/-! ## The transfers -/

def sendRes (c : Dev nD) (o : Fin 7) : sProp 𝕄 :=
  iprop(dutyTok ER (rcvCell (peer c o) o) 0 0 ∗ dutyTok ER (sndCell c o) 0 0 ∗ sndPts c (peer c o) (sbuf m ρ c)
    ∗ ∃ f, rcvPts (peer c o) o f)

/-- Before the `n`-th transfer. -/
def SendSt (c : Dev nD) (n : ℕ) : sProp 𝕄 :=
  iprop(owing c (owedR c n) ∗ bigSep (tail n) (sendRes (F := F) m ρ c) ∗ bigSep (head n) fun o => cred (tallyAt (sndCell c o) () N))

theorem sndM_pts (c : Dev nD) (j : Fin 8) (f : Buf (Elt F) ((c : Thread nD τ).loc cc0_scratch0)) :
    ((sndM j).view.loc (c : Thread nD τ) ↦[(sndM j).view.set]{fullShare} f : sProp 𝕄) = sndPts c j f :=
  congrArg (fun S => (((c : Thread nD τ).loc cc0_scratch0) ↦[S]{fullShare} f : sProp 𝕄)) (sndM_set j)
theorem rcvM_pts (c : Dev nD) (o : Fin 7) (f : Buf (Elt F) ((c : Thread nD τ).loc cc0_scratch1)) :
    ((rcvM o).view.loc (c : Thread nD τ) ↦[(rcvM o).view.set]{fullShare} f : sProp 𝕄) = rcvPts c o f :=
  congrArg (fun S => (((c : Thread nD τ).loc cc0_scratch1) ↦[S]{fullShare} f : sProp 𝕄)) (rcvM_set o)

theorem landed_pay (c : Dev nD) (o : Fin 7) (fd : Buf (Elt F) ((peer c o : Thread nD τ).loc cc0_scratch1)) :
    ((rcvM o).view.loc (peer c o : Thread nD τ) ↦[(rcvM o).view.set]{fullShare}
        ((rcvM o).view.write (Elt F) fd ((sndM (peer c o)).view.read (Elt F) (sbuf m ρ c)) Finset.univ) : sProp 𝕄)
      = rcvPay m ρ (peer c o) o := by
  unfold rcvPay
  rw [← rcvM_pts]
  exact pointsTo_congr fun i hi => landed_congr (rcvM o).view (rbuf m ρ (peer c o)) fd _ (read_landed m ρ c o) i hi

theorem step_send (c : Dev nD) (o : Fin 7) (n n' : ℕ) (hn : o.val = n) (hn' : n + 1 = n') (d : Dev nD) (hd : d = peer c o)
    {src dst : Memref sig .tc .vmem S64x512 .bf16} (hs : src = sndM (peer c o)) (ht : dst = rcvM o)
    {sS sV : DmaSem sig} (hS : sS = sndS o) (hV : sV = rcvS o)
    {hsc : (dst : Memref sig (Dev.tc d : Thread nD τ).2.kind .vmem S64x512 .bf16).view.ref.isScScratch = false}
    {hsrc : src.view.WordExact} {hdst : dst.view.WordExact}
    {hsem : DmaTarget.Typed .vmem (.dma sV) (.remote (Dev.tc d : Thread nD τ) dst (.dma sS) hsc)}
    {α : Type} {Q : α → sProp 𝕄} {k : PUnit → Prog (TpuEff nD τ sig (Elt F) Λ₀ .tc) α} :
    iprop(recs (F := F) m ρ K ∗ SendSt m ρ c n)
      ⊢ iprop((SendSt m ρ c n' -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma sS) hsc) (.dma sV) hsrc hdst hsem) k) Q) := by
  subst hn hn' hd hs ht hS hV
  unfold SendSt owing
  rw [tail_take, head_put, owedR_step]
  conv_lhs => unfold sendRes
  iintro ⟨#HR, ⟨%W, HO⟩, ⟨⟨Htv, Hts, Hsrc, ⟨%fd, Hdst⟩⟩, Hrest⟩, Hcr⟩ Hk
  ihave #HIs := recs_inv m ρ K (c, .inr (.inl o)) $$ HR
  ihave #HRs := recs_reached m ρ K (c, .inr (.inl o)) $$ HR
  ihave #HIv := recs_inv m ρ K (peer c o, .inr (.inr o)) $$ HR
  ihave #HRv := recs_reached m ρ K (peer c o, .inr (.inr o)) $$ HR
  iapply (Rounds.wp_send_pointsTo 𝒱₀ ER (Rd m ρ) (c : Thread nD τ) none (c' := (peer c o : Thread nD τ)) (κ₁ := kSnd K c o) (κ₂ := kRcv K (peer c o) o)
    (r₁ := 0) (r₂ := 0) (d₁ := 0) (d₂ := 0) (fs := sbuf m ρ c) (fd := fd) (src := sndM (peer c o)) (dst := rcvM o) (q := fullShare)
    (by rw [duties_snd]; exact Finset.mem_singleton_self _) (by rw [duties_rcv]; exact Finset.mem_singleton_self _)
    () () N rfl (amount_snd m ρ c o 0) (amount_rcv m ρ (peer c o) o 0) (owedR c (o.val + 1)) rfl (W := W)
    (by rw [payload_snd]; exact Entails.of_eq (sndM_pts c (peer c o) _))
    (by rw [payload_rcv]; exact Entails.of_eq (landed_pay m ρ c o fd))) $$ [HO Htv Hts Hsrc Hdst]
  · isplitr; · iexact HIs
    isplitr; · iexact HIv
    isplitl [Hsrc]; · rw [sndM_pts]; iexact Hsrc
    isplitl [Hdst]; · rw [rcvM_pts]; iexact Hdst
    isplitl [HO]; · iexact HO
    isplitl [Hts]; · iexact Hts
    isplitr; · iexact HRs
    isplitl [Htv]; · iexact Htv
    iexact HRv
  iintro ⟨Hc, HO⟩
  iapply Hk
  isplitl [HO]; · iexists W; iexact HO
  isplitl [Hrest]; · iexact Hrest
  isplitl [Hc] <;> iassumption

/-! ## The waits for landings and departures -/

/-- Before the `n`-th wait for a landing. -/
def LandSt (c : Dev nD) (n : ℕ) : sProp 𝕄 :=
  iprop(owing c 0 ∗ bigSep (tail n) (fun o => iprop(cred (tallyAt (rcvCell c o) () N) ∗ atPos ER (rcvCell c o) 0 ∅ 0))
    ∗ bigSep (head n) fun o => iprop(semVal (rcvCell c o) 0 ∗ rcvPay (F := F) m ρ c o))

theorem step_land (c : Dev nD) (o : Fin 7) (n n' : ℕ) (hn : o.val = n) (hn' : n + 1 = n')
    {sp sp' : Space} {s s' : Shape} {e e' : EltTy} {src : Memref sig .tc sp s e} {dst : Memref sig .tc sp' s' e'} {hsrc hdst} (hc : dst.view.dmaCredit = N)
    {sV : DmaSem sig} (hV : sV = rcvS o)
    {α : Type} {Q : α → sProp 𝕄} {k : PUnit → Prog (TpuEff nD τ sig (Elt F) Λ₀ .tc) α} :
    iprop(recs (F := F) m ρ K ∗ LandSt m ρ c n)
      ⊢ iprop((LandSt m ρ c n' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sV src dst hsrc hdst) k) Q) := by
  subst hn hn' hV
  unfold LandSt owing
  rw [tail_take, head_put]
  iintro ⟨#HR, ⟨%W, HO⟩, ⟨⟨Hc, Hat⟩, Hrest⟩, Hdone⟩ Hk
  ihave #HI := recs_inv m ρ K (c, .inr (.inr o)) $$ HR
  iapply (Rounds.wp_wait_rest_token 𝒱₀ ER (Rd m ρ) (c : Thread nD τ) none (κ := kRcv K c o)
      (wpE_waitDma2_eq 𝒱₀ (c : Thread nD τ) none Set.univ) (Set.mem_univ _) () (O := 0) (W := W) (R := 0) (m := 0) (T := ∅)
      (by rw [Nat.zero_add, expect_rcv, hc])) $$ [Hc HO Hat]
  · isplitr; · iexact HI
    isplitl [Hc]; · rw [hc]; iexact Hc
    isplitl [HO]; · iexact HO
    isplitr; · rw [MayWait_zero]; iempintro
    iexact Hat
  iintro ⟨HO, Hat, -, Hpay⟩
  ihave Hp := (Entails.of_eq (rest_rcv m ρ c o)) $$ Hpay
  imod (Rounds.cell_close ER (Rd m ρ) (Set.mem_univ (kRcv K c o)) (fun h => h) (R := 0 + 1) (duties_later m ρ (rcvCell c o))) $$ [Hat] with Hz
  · isplitr; · iexact HI
    iexact Hat
  iapply Hk
  isplitl [HO]; · iexists _; iexact HO
  isplitl [Hrest]; · iexact Hrest
  isplitl [Hz Hp]
  · isplitl [Hz] <;> iassumption
  iexact Hdone

/-- Before the `n`-th wait for a departure. -/
def LeaveSt (c : Dev nD) (n : ℕ) : sProp 𝕄 :=
  iprop(owing c 0 ∗ bigSep (tail n) (fun o => iprop(cred (tallyAt (sndCell c o) () N) ∗ atPos ER (sndCell c o) 0 ∅ 0))
    ∗ bigSep (head n) fun o => iprop(semVal (sndCell c o) 0 ∗ sndPay (F := F) m ρ c o))

theorem step_leave (c : Dev nD) (o : Fin 7) (n n' : ℕ) (hn : o.val = n) (hn' : n + 1 = n')
    {sp : Space} {s : Shape} {e : EltTy} {src : Memref sig .tc sp s e} {dst : Memref sig .tc .vmem S64x512 .bf16} {hsrc hdst} (ht : dst = sndM (peer c o))
    {sS : DmaSem sig} (hS : sS = sndS o)
    {α : Type} {Q : α → sProp 𝕄} {k : PUnit → Prog (TpuEff nD τ sig (Elt F) Λ₀ .tc) α} :
    iprop(recs (F := F) m ρ K ∗ LeaveSt m ρ c n)
      ⊢ iprop((LeaveSt m ρ c n' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hn hn' hS ht
  have hc : (sndM (peer c o)).view.dmaCredit = N := rfl
  unfold LeaveSt owing
  rw [tail_take, head_put]
  iintro ⟨#HR, ⟨%W, HO⟩, ⟨⟨Hc, Hat⟩, Hrest⟩, Hdone⟩ Hk
  ihave #HI := recs_inv m ρ K (c, .inr (.inl o)) $$ HR
  iapply (Rounds.wp_wait_rest_token 𝒱₀ ER (Rd m ρ) (c : Thread nD τ) none (κ := kSnd K c o)
      (wpE_waitDma2_eq 𝒱₀ (c : Thread nD τ) none Set.univ) (Set.mem_univ _) () (O := 0) (W := W) (R := 0) (m := 0) (T := ∅)
      (by rw [Nat.zero_add, expect_snd, hc])) $$ [Hc HO Hat]
  · isplitr; · iexact HI
    isplitl [Hc]; · rw [hc]; iexact Hc
    isplitl [HO]; · iexact HO
    isplitr; · rw [MayWait_zero]; iempintro
    iexact Hat
  iintro ⟨HO, Hat, -, Hpay⟩
  ihave Hp := (Entails.of_eq (rest_snd m ρ c o)) $$ Hpay
  imod (Rounds.cell_close ER (Rd m ρ) (Set.mem_univ (kSnd K c o)) (fun h => h) (R := 0 + 1) (duties_later m ρ (sndCell c o))) $$ [Hat] with Hz
  · isplitr; · iexact HI
    iexact Hat
  iapply Hk
  isplitl [HO]; · iexists _; iexact HO
  isplitl [Hrest]; · iexact Hrest
  isplitl [Hz Hp]
  · isplitl [Hz] <;> iassumption
  iexact Hdone

theorem slots_all : ∀ c : Dev nD, (Finset.univ : Finset (Fin 8)) = insert c (Finset.univ.map ⟨peer c, peer_inj c⟩) := by decide

/-- The send buffer is the device's own slot and the seven it sends. -/
theorem own_split (c : Dev nD) (f : Buf (Elt F) ((c : Thread nD τ).loc cc0_scratch0)) :
    (((c : Thread nD τ).loc cc0_scratch0) ↦{fullShare} f : sProp 𝕄)
      = iprop(sndPts c c f ∗ bigSep Finset.univ fun o : Fin 7 => sndPts c (peer c o) f) := by
  rw [snd_split, slots_all c,
    bigSep_insert (by
      intro h
      obtain ⟨o, -, ho⟩ := Finset.mem_map.mp h
      exact peer_ne c o ho), bigSep_map]
  rfl

end Rules

end Cert.Moe

end
-- ==== Proof.Body.lean ====
/-
# The body on one device

What a core holds before and after the one grid point, and the kernel's program run from the one to the other, a rule of
`Steps` per step in program order, at a symbolic device.
-/
module

public import proofs.«01_k».proof.Proof.Steps
public import proofs.«01_k».proof.Proof.Gen.KernelIdeal.Points
public import Idealize.ShloMosaic.Lib.Pipeline.Value

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is stored and what is read -/

/-- Slot `j` of the filled send buffer is the rounded row block the program cuts out of the product. -/
theorem slot_read (c : Dev nD) (j : Fin 8) (off : ℕ) (ho : off = 64 * j.val) (hs : S512x512.Slices ![off, 0] S64x512) :
    (sM.access (slotRect j)).read (Elt F) (sbuf m ρ c)
      = shapeCast S1x64x512 (truncf .bf16 (extractStridedSlice S64x512 ![off, 0] (accAt m ρ c) hs) bitsLt_bf16_f32 : FVec F S64x512 .bf16)
          shapeCasts_S64x512_S1x64x512 := by
  subst ho
  funext y
  refine Eq.trans ?_ (shapeCast_addUnit_apply ![64, 512] _ shapeCasts_S64x512_S1x64x512 y).symm
  show FloatOps.truncf .bf16 bitsLt_bf16_f32 _ = FloatOps.truncf .bf16 bitsLt_bf16_f32 _
  congr 1
  refine (extractStridedSlice_apply _ _ hs _ _ ?_).symm
  have hy' : (y 0).val < 1 := (y 0).isLt
  have hy : (y 0).val = 0 := by omega
  intro a
  match a with
  | ⟨0, _⟩ =>
    show 64 * (j.val + 1 * (y 0).val) + (0 + 1 * (y 1).val) = 64 * j.val + (y 1).val
    omega
  | ⟨1, _⟩ =>
    show 0 + 1 * (y 2).val = 0 + (y 2).val
    omega

/-- A device's own slot of its send buffer, and a slot of its receive buffer, as its loads read them. -/
def ownSlot (c : Dev nD) : Vec F S1x64x512 .bf16 :=
  sM.view.readAt (Elt F) (Rect.unit (s := S8x64x512) (k0_off2 c) S1x64x512.size (k0_off2_inb c)).toLoadRect (sbuf m ρ c)
def recvSlot (c : Dev nD) (o : Fin 7) : Vec F S1x64x512 .bf16 :=
  rM.view.readAt (Elt F) (Rect.unit (s := S7x64x512) ![o.val, 0, 0] S1x64x512.size (inb7 o)).toLoadRect (rbuf m ρ c)

/-- What the device stores: its own slot and the seven it received, summed. -/
def outAt (c : Dev nD) : (cc0_stg4_0 : Ref sig .tc).ty.Contents (Elt F) :=
  k0_pay20 (k0_pay19 (ownSlot m ρ c)) (recvSlot m ρ c 0) (recvSlot m ρ c 1) (recvSlot m ρ c 2) (recvSlot m ρ c 3)
    (recvSlot m ρ c 4) (recvSlot m ρ c 5) (recvSlot m ρ c 6)

/-! ## What a core holds -/

section Body

variable (K : Dev nD × Slot → ℕ)

def ghost (c : Dev nD) : sProp 𝕄 :=
  iprop(recs m ρ K ∗ atPos ER (barCell c) 0 ∅ 0
    ∗ bigSep Finset.univ (fun o => atPos ER (sndCell c o) 0 ∅ 0)
    ∗ bigSep Finset.univ (fun o => atPos ER (rcvCell c o) 0 ∅ 0)
    ∗ bigSep Finset.univ (fun o => dutyTok ER (barCell (peer c o)) 0 o.rev)
    ∗ bigSep Finset.univ (fun o => dutyTok ER (rcvCell (peer c o) o) 0 0)
    ∗ bigSep Finset.univ (fun o => dutyTok ER (sndCell c o) 0 0))

def creds (c : Dev nD) : sProp 𝕄 :=
  iprop(cred (tallyAt (barCell c) () 7) ∗ bigSep Finset.univ fun o => cred (tallyAt (rcvCell c o) () N))

abbrev anySnd (c : Dev nD) : sProp 𝕄 :=
  iprop(∃ f : Buf (Elt F) ((c : Thread nD τ).loc cc0_scratch0), ((c : Thread nD τ).loc cc0_scratch0) ↦{fullShare} f)
abbrev anyRcv (c : Dev nD) : sProp 𝕄 :=
  iprop(∃ f : Buf (Elt F) ((c : Thread nD τ).loc cc0_scratch1), ((c : Thread nD τ).loc cc0_scratch1) ↦{fullShare} f)

def start (c : Dev nD) : sProp 𝕄 :=
  iprop((∃ K, ghost m ρ K c) ∗ creds (F := F) c ∗ levAts L lv)

def Φ₀ (c : Dev nD) : sProp 𝕄 := iprop(start m ρ c ∗ anySnd (F := F) c ∗ anyRcv (F := F) c)

/-- After the point: the two buffers, and every cell of the exchange closed at zero. -/
def Φ₁ (c : Dev nD) : sProp 𝕄 :=
  iprop(anySnd (F := F) c ∗ anyRcv (F := F) c ∗ bigSep Finset.univ (fun o => semVal (sndCell c o) 0)
    ∗ bigSep Finset.univ (fun o => semVal (rcvCell c o) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => iIn m ρ c
    | ⟨3, _⟩ => eIn m ρ c
    | ⟨4, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def stages (c : Dev nD) : sProp 𝕄 :=
  iprop((∃ d, stg c cc0_stg0_0 ((dats m ρ 0 c).before (0 : Fin 5) t₀ d)) ∗ (∃ d, stg c cc0_stg1_0 ((dats m ρ 0 c).before (1 : Fin 5) t₀ d))
    ∗ (∃ d, stg c cc0_stg2_0 ((dats m ρ 0 c).before (2 : Fin 5) t₀ d)) ∗ (∃ d, stg c cc0_stg3_0 ((dats m ρ 0 c).before (3 : Fin 5) t₀ d))
    ∗ (∃ d, stg c cc0_stg4_0 ((dats m ρ 0 c).before (4 : Fin 5) t₀ d)))

def bodyPre (c : Dev nD) : sProp 𝕄 :=
  iprop((ghost m ρ K c ∗ creds (F := F) c ∗ levAts L lv ∗ anySnd (F := F) c ∗ anyRcv (F := F) c)
    ∗ (dats m ρ 0 c).owesAt () t₀.castSucc ∗ stages m ρ c)

def bodyPost (c : Dev nD) : sProp 𝕄 :=
  iprop(Φ₁ (F := F) c ∗ (dats m ρ 0 c).owesAt () t₀.succ ∗ stg c cc0_stg0_0 (xIn m ρ c) ∗ stg c cc0_stg1_0 (wIn m ρ c)
    ∗ stg c cc0_stg2_0 (iIn m ρ c) ∗ stg c cc0_stg3_0 (eIn m ρ c) ∗ stg c cc0_stg4_0 (outAt m ρ c))

/-! ## Between the bundles -/

theorem any_slots (c : Dev nD) : anyRcv (F := F) c ⊢ bigSep Finset.univ fun o : Fin 7 => iprop(∃ f, rcvPts (F := F) c o.rev f) := by
  iintro ⟨%f, H⟩
  ihave H := (Entails.of_eq (rcv_split c f)) $$ H
  ihave H := (Entails.of_eq (bigSep_univ_equiv Fin.revPerm (fun o => rcvPts (F := F) c o f))) $$ H
  have hm : (bigSep Finset.univ fun o : Fin 7 => rcvPts (F := F) c o.rev f) ⊢ bigSep Finset.univ fun o : Fin 7 => iprop(∃ f, rcvPts (F := F) c o.rev f) :=
    bigSep_mono fun o _ => by
      show rcvPts (F := F) c o.rev f ⊢ iprop(∃ f, rcvPts (F := F) c o.rev f)
      iintro H; iexists f; iexact H
  iapply hm
  iexact H

theorem sig_start (c : Dev nD) :
    iprop(owing (F := F) c (O₀ c) ∗ bigSep Finset.univ (fun o => dutyTok ER (barCell (peer c o)) 0 o.rev) ∗ anyRcv (F := F) c) ⊢ SigSt c 0 := by
  unfold SigSt
  rw [tail_zero]
  iintro ⟨HO, Ht, Hr⟩
  isplitl [HO]; · iexact HO
  ihave Hr := (any_slots c) $$ Hr
  unfold sigRes
  rw [bigSep_sep']
  isplitl [Ht] <;> iassumption

theorem send_start (c : Dev nD) :
    iprop(owing (F := F) c (owedR c 0) ∗ bigSep Finset.univ (fun o => dutyTok ER (rcvCell (peer c o) o) 0 0)
        ∗ bigSep Finset.univ (fun o => dutyTok ER (sndCell c o) 0 0)
        ∗ (bigSep Finset.univ fun o : Fin 7 => sndPts c (peer c o) (sbuf m ρ c))
        ∗ (bigSep Finset.univ fun o : Fin 7 => barPay (F := F) c o)) ⊢ SendSt m ρ c 0 := by
  unfold SendSt
  rw [tail_zero, head_zero, bigSep_empty]
  iintro ⟨HO, Ht, Hs, Hp, Hb⟩
  isplitl [HO]; · iexact HO
  isplitl
  · unfold sendRes
    simp only [bigSep_sep']
    isplitl [Ht]; · iexact Ht
    isplitl [Hs]; · iexact Hs
    isplitl [Hp]; · iexact Hp
    have hm : (bigSep Finset.univ fun o : Fin 7 => barPay (F := F) c o) ⊢ bigSep Finset.univ fun o : Fin 7 => iprop(∃ f, rcvPts (F := F) (peer c o) o f) :=
      bigSep_mono fun o _ => by
        show barPay (F := F) c o ⊢ iprop(∃ f, rcvPts (F := F) (peer c o) o f)
        unfold barPay; iintro ⟨H, -⟩; iexact H
    iapply hm
    iexact Hb
  · iempintro

theorem send_end (c : Dev nD) :
    SendSt m ρ c 7 ⊢ iprop(owing (F := F) c 0 ∗ bigSep Finset.univ fun o => cred (tallyAt (sndCell c o) () N)) := by
  unfold SendSt
  rw [tail_seven, head_seven, owedR_end]
  iintro ⟨HO, -, Hc⟩
  isplitl [HO] <;> iassumption

theorem land_start (c : Dev nD) :
    iprop(owing (F := F) c 0 ∗ (bigSep Finset.univ fun o => cred (tallyAt (rcvCell c o) () N))
      ∗ bigSep Finset.univ (fun o => atPos ER (rcvCell c o) 0 ∅ 0)) ⊢ LandSt m ρ c 0 := by
  unfold LandSt
  rw [tail_zero, head_zero, bigSep_empty]
  simp only [bigSep_sep']
  iintro ⟨HO, Hc, Ha⟩
  isplitl [HO]; · iexact HO
  isplitl
  · isplitl [Hc] <;> iassumption
  · iempintro

theorem land_end (c : Dev nD) :
    LandSt m ρ c 7 ⊢ iprop(owing (F := F) c 0 ∗ bigSep Finset.univ (fun o => semVal (rcvCell c o) 0)
      ∗ (((c : Thread nD τ).loc cc0_scratch1) ↦{fullShare} (rbuf m ρ c))) := by
  unfold LandSt
  rw [tail_seven, head_seven, rcv_split]
  simp only [bigSep_sep']
  unfold rcvPay
  iintro ⟨HO, -, Hz, Hp⟩
  isplitl [HO]; · iexact HO
  isplitl [Hz] <;> iassumption

theorem leave_start (c : Dev nD) :
    iprop(owing (F := F) c 0 ∗ (bigSep Finset.univ fun o => cred (tallyAt (sndCell c o) () N))
      ∗ bigSep Finset.univ (fun o => atPos ER (sndCell c o) 0 ∅ 0)) ⊢ LeaveSt m ρ c 0 := by
  unfold LeaveSt
  rw [tail_zero, head_zero, bigSep_empty]
  simp only [bigSep_sep']
  iintro ⟨HO, Hc, Ha⟩
  isplitl [HO]; · iexact HO
  isplitl
  · isplitl [Hc] <;> iassumption
  · iempintro

theorem leave_end (c : Dev nD) :
    iprop(LeaveSt m ρ c 7 ∗ sndPts c c (sbuf m ρ c)) ⊢ iprop(owing (F := F) c 0 ∗ bigSep Finset.univ (fun o => semVal (sndCell c o) 0)
      ∗ (((c : Thread nD τ).loc cc0_scratch0) ↦{fullShare} (sbuf m ρ c))) := by
  unfold LeaveSt
  rw [tail_seven, head_seven, own_split]
  simp only [bigSep_sep']
  unfold sndPay
  iintro ⟨⟨HO, -, Hz, Hp⟩, Hs⟩
  isplitl [HO]; · iexact HO
  isplitl [Hz]; · iexact Hz
  isplitl [Hs] <;> iassumption

theorem hz2 : (![0, 0] : Fin 2 → Nat) = fun _ => 0 := funext fun a => by fin_cases a <;> rfl
theorem hz3 : (![0, 0, 0] : Fin 3 → Nat) = fun _ => 0 := funext fun a => by fin_cases a <;> rfl

theorem own_sub (c : Dev nD) : sM.view.setOn (Rect.unit (s := S8x64x512) (k0_off2 c) S1x64x512.size (k0_off2_inb c)).toLoadRect.set ⊆ sndSet c := by
  intro i hi
  obtain ⟨x, hx, rfl⟩ := Finset.mem_map.mp hi
  have h := (Rect.mem_set_unit.mp hx) 0
  rw [mem_sndSet]
  rw [k0_off2_eq] at h
  have e2 : S1x64x512.size 0 = 1 := rfl
  rw [e2] at h
  show (x 0).val = c.val
  have e1 : (![c.val, 0, 0] : Fin 3 → Nat) 0 = c.val := rfl
  rw [e1] at h
  omega

set_option maxHeartbeats 1600000 in
/-- The body, run from `bodyPre` to `bodyPost`, one rule per step in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part14_eq_skeleton]; unfold k0_part14_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton]
  unfold k0_part1_skel k0_part2_skel k0_part3_skel k0_part4_skel k0_part5_skel k0_part6_skel k0_part7_skel k0_part8_skel k0_part9_skel
    k0_part10_skel k0_part11_skel k0_part12_skel k0_part13_skel
  simp only [semSignalWord, semWaitWord, Prog.lift, Prog.bind_op, Prog.bind_ret, Prog.pure_eq_ret, wp_deviceId]
  unfold bodyPre ghost creds stages
  iintro ⟨⟨⟨⟨#HR, HatB, HatS, HatV, HtB, HtV, HtS⟩, ⟨HcB, HcV⟩, #Hlev, ⟨%fs, Hsnd⟩, Hrcv⟩,
    Ho, ⟨%d0, %g0, %hg0, Hx⟩, ⟨%d1, %g1, %hg1, Hw⟩, ⟨%d2, %g2, %hg2, Hi⟩, ⟨%d3, %g3, %hg3, He⟩, ⟨%d4, %g4, %hg4, Hout⟩⟩, Hk⟩
  have hx : g0 = xIn m ρ c := by rw [hg0]; unfold Dat.before; rw [if_pos (fetch0_0 t₀)]; rfl
  have hw : g1 = wIn m ρ c := by rw [hg1]; unfold Dat.before; rw [if_pos (fetch0_1 t₀)]; rfl
  have hi : g2 = iIn m ρ c := by rw [hg2]; unfold Dat.before; rw [if_pos (fetch0_2 t₀)]; rfl
  have he : g3 = eIn m ρ c := by rw [hg3]; unfold Dat.before; rw [if_pos (fetch0_3 t₀)]; rfl
  subst hx hw hi he
  unfold Dat.owesAt Pipeline.owesWithin
  icases Ho with ⟨%W, %hW, HO⟩
  rw [show (dats m ρ 0 c).owed t₀.castSucc = O₀ c from rfl]
  ihave HS := (sig_start c) $$ [HO HtB Hrcv]
  · isplitl [HO]; · unfold owing; iexists W; iexact HO
    isplitl [HtB] <;> iassumption
  have hx' : (Memref.whole cc0_stg0_0 : Memref sig .tc .vmem S512x256 .bf16).view.readAt (Elt F) (Rect.unit (s := S512x256) ![0, 0] ![512, 256] inb_S512x256_S512x256_0_0).toLoadRect (xIn m ρ c) = xIn m ρ c :=
    Memref.readAt_unit_zero (Elt F) cc0_stg0_0 hz2 inb_S512x256_S512x256_0_0 (xIn m ρ c)
  have hw' : (Memref.whole cc0_stg1_0 : Memref sig .tc .vmem S256x32 .bf16).view.readAt (Elt F) (Rect.unit (s := S256x32) ![0, 0] ![256, 32] inb_S256x32_S256x32_0_0).toLoadRect (wIn m ρ c) = wIn m ρ c :=
    Memref.readAt_unit_zero (Elt F) cc0_stg1_0 hz2 inb_S256x32_S256x32_0_0 (wIn m ρ c)
  have he' : (Memref.whole cc0_stg3_0 : Memref sig .tc .vmem S4x256x512 .bf16).view.readAt (Elt F) (Rect.unit (s := S4x256x512) ![0, 0, 0] ![4, 256, 512] inb_S4x256x512_S4x256x512_0_0_0).toLoadRect (eIn m ρ c) = eIn m ρ c :=
    Memref.readAt_unit_zero (Elt F) cc0_stg3_0 hz3 inb_S4x256x512_S4x256x512_0_0_0 (eIn m ρ c)
  -- the seven signals and the barrier wait
  iapply (step_signal m ρ K c 0 0 1 rfl rfl _ (dev1_eq c) _ (by decide)) $$ [HS]
  · isplitr; · iexact HR
    iexact HS
  iintro HS
  iapply (step_signal m ρ K c 1 1 2 rfl rfl _ (dev2_eq c) _ (by decide)) $$ [HS]
  · isplitr; · iexact HR
    iexact HS
  iintro HS
  iapply (step_signal m ρ K c 2 2 3 rfl rfl _ (dev3_eq c) _ (by decide)) $$ [HS]
  · isplitr; · iexact HR
    iexact HS
  iintro HS
  iapply (step_signal m ρ K c 3 3 4 rfl rfl _ (dev4_eq c) _ (by decide)) $$ [HS]
  · isplitr; · iexact HR
    iexact HS
  iintro HS
  iapply (step_signal m ρ K c 4 4 5 rfl rfl _ (dev5_eq c) _ (by decide)) $$ [HS]
  · isplitr; · iexact HR
    iexact HS
  iintro HS
  iapply (step_signal m ρ K c 5 5 6 rfl rfl _ (dev6_eq c) _ (by decide)) $$ [HS]
  · isplitr; · iexact HR
    iexact HS
  iintro HS
  iapply (step_signal m ρ K c 6 6 7 rfl rfl _ (dev7_eq c) _ (by decide)) $$ [HS]
  · isplitr; · iexact HR
    iexact HS
  iintro HS
  iapply (step_barrier m ρ K c _ (by decide)) $$ [HS HcB HatB]
  · isplitr; · iexact HR
    isplitr; · iexact Hlev
    isplitl [HS]; · iexact HS
    isplitl [HcB] <;> iassumption
  iintro ⟨HO, HzB, Hbar⟩
  -- the inputs
  iapply (wp_load 𝒱₀ (c : Thread nD τ) none Set.univ (m := (Memref.whole cc0_stg0_0 : Memref sig .tc .vmem S512x256 .bf16)) (Finset.subset_univ _)) $$ Hx; iintro Hx
  iapply (wp_load 𝒱₀ (c : Thread nD τ) none Set.univ (m := (Memref.whole cc0_stg1_0 : Memref sig .tc .vmem S256x32 .bf16)) (Finset.subset_univ _)) $$ Hw; iintro Hw
  iapply (wp_load 𝒱₀ (c : Thread nD τ) none Set.univ (m := (Memref.whole cc0_stg2_0 : Memref sig .tc .vmem S512x2 .i32)) (Finset.subset_univ _)) $$ Hi; iintro Hi
  iapply (wp_load 𝒱₀ (c : Thread nD τ) none Set.univ (m := (Memref.whole cc0_stg2_0 : Memref sig .tc .vmem S512x2 .i32)) (Finset.subset_univ _)) $$ Hi; iintro Hi
  iapply (wp_load 𝒱₀ (c : Thread nD τ) none Set.univ (m := (Memref.whole cc0_stg3_0 : Memref sig .tc .vmem S4x256x512 .bf16)) (Finset.subset_univ _)) $$ He; iintro He
  rw [hx', hw', he']
  -- the send buffer filled
  ihave HS : FillSt m ρ c 0 $$ [Hsnd]
  · unfold FillSt
    iexists fs
    isplitr; · ipureintro; exact fun i hi => absurd hi (Nat.not_lt_zero _)
    iexact Hsnd
  iapply (step_fill_load m ρ c 0) $$ HS; iintro %v0 HS
  iapply (step_fill_store m ρ c 0 0 1 rfl rfl rfl (slot_read m ρ c 0 0 rfl slices_S512x512_o0_0_S64x512) rfl) $$ HS; iintro HS
  iapply (step_fill_load m ρ c 1) $$ HS; iintro %v1 HS
  iapply (step_fill_store m ρ c 1 1 2 rfl rfl rfl (slot_read m ρ c 1 64 rfl slices_S512x512_o64_0_S64x512) rfl) $$ HS; iintro HS
  iapply (step_fill_load m ρ c 2) $$ HS; iintro %v2 HS
  iapply (step_fill_store m ρ c 2 2 3 rfl rfl rfl (slot_read m ρ c 2 128 rfl slices_S512x512_o128_0_S64x512) rfl) $$ HS; iintro HS
  iapply (step_fill_load m ρ c 3) $$ HS; iintro %v3 HS
  iapply (step_fill_store m ρ c 3 3 4 rfl rfl rfl (slot_read m ρ c 3 192 rfl slices_S512x512_o192_0_S64x512) rfl) $$ HS; iintro HS
  iapply (step_fill_load m ρ c 4) $$ HS; iintro %v4 HS
  iapply (step_fill_store m ρ c 4 4 5 rfl rfl rfl (slot_read m ρ c 4 256 rfl slices_S512x512_o256_0_S64x512) rfl) $$ HS; iintro HS
  iapply (step_fill_load m ρ c 5) $$ HS; iintro %v5 HS
  iapply (step_fill_store m ρ c 5 5 6 rfl rfl rfl (slot_read m ρ c 5 320 rfl slices_S512x512_o320_0_S64x512) rfl) $$ HS; iintro HS
  iapply (step_fill_load m ρ c 6) $$ HS; iintro %v6 HS
  iapply (step_fill_store m ρ c 6 6 7 rfl rfl rfl (slot_read m ρ c 6 384 rfl slices_S512x512_o384_0_S64x512) rfl) $$ HS; iintro HS
  iapply (step_fill_load m ρ c 7) $$ HS; iintro %v7 HS
  iapply (step_fill_store m ρ c 7 7 8 rfl rfl rfl (slot_read m ρ c 7 448 rfl slices_S512x512_o448_0_S64x512) rfl) $$ HS; iintro HS
  ihave HS := (fill_end m ρ c) $$ HS
  ihave HS := (Entails.of_eq (own_split c _)) $$ HS
  icases HS with ⟨Hown, HS⟩
  -- the seven transfers
  ihave HS := (send_start m ρ c) $$ [HO HtV HtS HS Hbar]
  · isplitl [HO]; · iexact HO
    isplitl [HtV]; · iexact HtV
    isplitl [HtS]; · iexact HtS
    isplitl [HS] <;> iassumption
  iapply (step_send m ρ K c 0 0 1 rfl rfl _ (dev8_eq c) (sndM_of _ _ (off1_eq c 0) _) rfl rfl rfl) $$ [HS]
  · isplitr; · iexact HR
    iexact HS
  iintro HS
  iapply (step_send m ρ K c 1 1 2 rfl rfl _ (dev9_eq c) (sndM_of _ _ (off1_eq c 1) _) rfl rfl rfl) $$ [HS]
  · isplitr; · iexact HR
    iexact HS
  iintro HS
  iapply (step_send m ρ K c 2 2 3 rfl rfl _ (dev10_eq c) (sndM_of _ _ (off1_eq c 2) _) rfl rfl rfl) $$ [HS]
  · isplitr; · iexact HR
    iexact HS
  iintro HS
  iapply (step_send m ρ K c 3 3 4 rfl rfl _ (dev11_eq c) (sndM_of _ _ (off1_eq c 3) _) rfl rfl rfl) $$ [HS]
  · isplitr; · iexact HR
    iexact HS
  iintro HS
  iapply (step_send m ρ K c 4 4 5 rfl rfl _ (dev12_eq c) (sndM_of _ _ (off1_eq c 4) _) rfl rfl rfl) $$ [HS]
  · isplitr; · iexact HR
    iexact HS
  iintro HS
  iapply (step_send m ρ K c 5 5 6 rfl rfl _ (dev13_eq c) (sndM_of _ _ (off1_eq c 5) _) rfl rfl rfl) $$ [HS]
  · isplitr; · iexact HR
    iexact HS
  iintro HS
  iapply (step_send m ρ K c 6 6 7 rfl rfl _ (dev14_eq c) (sndM_of _ _ (off1_eq c 6) _) rfl rfl rfl) $$ [HS]
  · isplitr; · iexact HR
    iexact HS
  iintro HS
  ihave HS := (send_end m ρ c) $$ HS
  icases HS with ⟨HO, HcS⟩
  unfold sndPts
  iapply (wp_load 𝒱₀ (c : Thread nD τ) none Set.univ (m := sM) (own_sub c)) $$ Hown; iintro Hown
  -- the seven waits for the landings
  ihave HS := (land_start m ρ c) $$ [HO HcV HatV]
  · isplitl [HO]; · iexact HO
    isplitl [HcV] <;> iassumption
  iapply (step_land m ρ K c 0 0 1 rfl rfl (dst := rcvM 0) rfl rfl) $$ [HS]
  · isplitr; · iexact HR
    iexact HS
  iintro HS
  iapply (step_land m ρ K c 1 1 2 rfl rfl (dst := rcvM 1) rfl rfl) $$ [HS]
  · isplitr; · iexact HR
    iexact HS
  iintro HS
  iapply (step_land m ρ K c 2 2 3 rfl rfl (dst := rcvM 2) rfl rfl) $$ [HS]
  · isplitr; · iexact HR
    iexact HS
  iintro HS
  iapply (step_land m ρ K c 3 3 4 rfl rfl (dst := rcvM 3) rfl rfl) $$ [HS]
  · isplitr; · iexact HR
    iexact HS
  iintro HS
  iapply (step_land m ρ K c 4 4 5 rfl rfl (dst := rcvM 4) rfl rfl) $$ [HS]
  · isplitr; · iexact HR
    iexact HS
  iintro HS
  iapply (step_land m ρ K c 5 5 6 rfl rfl (dst := rcvM 5) rfl rfl) $$ [HS]
  · isplitr; · iexact HR
    iexact HS
  iintro HS
  iapply (step_land m ρ K c 6 6 7 rfl rfl (dst := rcvM 6) rfl rfl) $$ [HS]
  · isplitr; · iexact HR
    iexact HS
  iintro HS
  ihave HS := (land_end m ρ c) $$ HS
  icases HS with ⟨HO, HzV, Hrcv⟩
  iapply (wp_load 𝒱₀ (c : Thread nD τ) none Set.univ (m := rM) (Finset.subset_univ _)) $$ Hrcv; iintro Hrcv
  iapply (wp_load 𝒱₀ (c : Thread nD τ) none Set.univ (m := rM) (Finset.subset_univ _)) $$ Hrcv; iintro Hrcv
  iapply (wp_load 𝒱₀ (c : Thread nD τ) none Set.univ (m := rM) (Finset.subset_univ _)) $$ Hrcv; iintro Hrcv
  iapply (wp_load 𝒱₀ (c : Thread nD τ) none Set.univ (m := rM) (Finset.subset_univ _)) $$ Hrcv; iintro Hrcv
  iapply (wp_load 𝒱₀ (c : Thread nD τ) none Set.univ (m := rM) (Finset.subset_univ _)) $$ Hrcv; iintro Hrcv
  iapply (wp_load 𝒱₀ (c : Thread nD τ) none Set.univ (m := rM) (Finset.subset_univ _)) $$ Hrcv; iintro Hrcv
  iapply (wp_load 𝒱₀ (c : Thread nD τ) none Set.univ (m := rM) (Finset.subset_univ _)) $$ Hrcv; iintro Hrcv
  iapply (wp_load 𝒱₀ (c : Thread nD τ) none Set.univ (m := (Memref.whole cc0_stg4_0 : Memref sig .tc .vmem S64x512 .f32)) (Finset.subset_univ _)) $$ Hout; iintro Hout
  iapply (wp_store 𝒱₀ (c : Thread nD τ) none Set.univ (m := (Memref.whole cc0_stg4_0 : Memref sig .tc .vmem S64x512 .f32))
    (r := Rect.unit (s := S64x512) ![0, 0] S64x512.size inb_S64x512_S64x512_0_0) (Mk := Finset.univ) (Finset.subset_univ _)) $$ Hout; iintro Hout
  ihave Hout : stg c cc0_stg4_0 (outAt m ρ c) $$ [Hout]
  · iexists _
    isplitr
    rotate_left
    · iexact Hout
    · ipureintro
      exact Memref.write_access_unit_zero_univ (Elt F) cc0_stg4_0 hz2 inb_S64x512_S64x512_0_0 _ _
  -- the seven waits for the departures
  ihave HS := (leave_start m ρ c) $$ [HO HcS HatS]
  · isplitl [HO]; · iexact HO
    isplitl [HcS] <;> iassumption
  iapply (step_leave m ρ K c 0 0 1 rfl rfl (sndM_of _ _ (off1_eq c 0) _) rfl) $$ [HS]
  · isplitr; · iexact HR
    iexact HS
  iintro HS
  iapply (step_leave m ρ K c 1 1 2 rfl rfl (sndM_of _ _ (off1_eq c 1) _) rfl) $$ [HS]
  · isplitr; · iexact HR
    iexact HS
  iintro HS
  iapply (step_leave m ρ K c 2 2 3 rfl rfl (sndM_of _ _ (off1_eq c 2) _) rfl) $$ [HS]
  · isplitr; · iexact HR
    iexact HS
  iintro HS
  iapply (step_leave m ρ K c 3 3 4 rfl rfl (sndM_of _ _ (off1_eq c 3) _) rfl) $$ [HS]
  · isplitr; · iexact HR
    iexact HS
  iintro HS
  iapply (step_leave m ρ K c 4 4 5 rfl rfl (sndM_of _ _ (off1_eq c 4) _) rfl) $$ [HS]
  · isplitr; · iexact HR
    iexact HS
  iintro HS
  iapply (step_leave m ρ K c 5 5 6 rfl rfl (sndM_of _ _ (off1_eq c 5) _) rfl) $$ [HS]
  · isplitr; · iexact HR
    iexact HS
  iintro HS
  iapply (step_leave m ρ K c 6 6 7 rfl rfl (sndM_of _ _ (off1_eq c 6) _) rfl) $$ [HS]
  · isplitr; · iexact HR
    iexact HS
  iintro HS
  ihave HS := (leave_end m ρ c) $$ [HS Hown]
  · isplitl [HS]; · iexact HS
    unfold sndPts; iexact Hown
  icases HS with ⟨HO, HzS, Hsnd⟩
  rw [wp_ret]; imodintro
  iapply Hk
  unfold bodyPost Φ₁ Dat.owesAt Pipeline.owesWithin
  rw [show (dats m ρ 0 c).owed t₀.succ = 0 from rfl]
  isplitl [Hsnd Hrcv HzS HzV HzB]
  · isplitl [Hsnd]; · iexists _; iexact Hsnd
    isplitl [Hrcv]; · iexists _; iexact Hrcv
    isplitl [HzS]; · iexact HzS
    isplitl [HzV] <;> iassumption
  isplitl [HO]
  · unfold owing
    icases HO with ⟨%W', HO⟩
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hi]
  · iexists _; isplitr; · (ipureintro; rfl)
    iexact Hi
  isplitl [He]
  · iexists _; isplitr; · (ipureintro; rfl)
    iexact He
  iexact Hout

def bodyPre' (c : Dev nD) : sProp 𝕄 :=
  iprop(Φ₀ m ρ c ∗ (dats m ρ 0 c).owesAt () t₀.castSucc ∗ stages m ρ c)

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _) cc0_scratch2 cc0_scratch3)
      (fun _ => bodyPost m ρ c)
  unfold bodyPre' Φ₀ start
  iintro ⟨⟨⟨⟨%K, Hg⟩, Hc, Hl⟩, Hs, Hr⟩, Ho, Hst⟩
  iapply (sound_body m ρ K c (fun _ => bodyPost m ρ c))
  isplitl
  · unfold bodyPre
    isplitl [Hg Hc Hl Hs Hr]
    · isplitl [Hg]; · iexact Hg
      isplitl [Hc]; · iexact Hc
      isplitl [Hl]; · iexact Hl
      isplitl [Hs] <;> iassumption
    isplitl [Ho] <;> iassumption
  · iintro H; iexact H

end Body

end Cert.Moe

end
-- ==== Proof.Launch.lean ====
/-
# The launch

From the memory at launch to `BodyObligation` and back: the cells' ghost state funded and dealt, the launch credit, and
`run_main`, the run of the whole program on the eight devices over any float values.
-/
module

public import proofs.«01_k».proof.Proof.Body
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The kernel's own semaphores: seven send, seven receive. -/
abbrev osem (k : Fin 7 ⊕ Fin 7) : SemLoc sig := csem (.inr k)

theorem ownSemFacts : Pipeline.OwnSemFacts cfg0.spec osem := by decide

theorem share_eq (c : Dev nD) (w : Fin cfg0.W) : (dats m ρ 0 c).share w = fullShare := by unfold Dat.share; split <;> rfl

def exCells : Finset (GSem nD τ sig) := Finset.univ.map ⟨kcell, kcell_injective⟩

/-- The duties of a device's own cells: seven of its barrier, one of each send cell, one of each receive cell. -/
abbrev Duty : Type := Fin 7 ⊕ (Fin 7 ⊕ Fin 7)

def dslot : Duty → Slot × Fin 7
  | .inl d => (.inl (), d)
  | .inr (.inl o) => (.inr (.inl o), 0)
  | .inr (.inr o) => (.inr (.inr o), 0)

theorem dslot_inj : Function.Injective dslot := by decide

def tokOf (cj : Dev nD × Duty) : GSem nD τ sig × ℕ × Fin 7 := (kcell (cj.1, (dslot cj.2).1), 0, (dslot cj.2).2)

theorem tokOf_injective : Function.Injective tokOf := by
  rintro ⟨c, j⟩ ⟨c', j'⟩ h
  have h1 : ((c, (dslot j).1) : Dev nD × Slot) = (c', (dslot j').1) := kcell_injective (congrArg (fun x : GSem nD τ sig × ℕ × Fin 7 => x.1) h)
  have h2 : (dslot j).2 = (dslot j').2 := congrArg (fun x : GSem nD τ sig × ℕ × Fin 7 => x.2.2) h
  have h3 : c = c' := congrArg Prod.fst h1
  have h4 : j = j' := dslot_inj (Prod.ext (congrArg Prod.snd h1) h2)
  rw [h3, h4]

def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun d : Fin 7 => dutyTok ER (barCell c) 0 d) ∗ (bigSep Finset.univ fun o : Fin 7 => dutyTok ER (sndCell c o) 0 0)
    ∗ bigSep Finset.univ fun o : Fin 7 => dutyTok ER (rcvCell c o) 0 0)

/-- What the launch deals device `c`. -/
def G (c : Dev nD) : sProp 𝕄 :=
  iprop((bigSep Finset.univ fun k : Slot => roundState ER (Rd m ρ) (kcell (c, k)) 0)
    ∗ (bigSep Finset.univ fun k : Slot => iprop(atPos ER (kcell (c, k)) 0 ∅ 0 ∗ reached ER (kcell (c, k)) 0)) ∗ toks (F := F) c)

/-- What the global step makes of it. -/
def G' (c : Dev nD) : sProp 𝕄 := iprop(∃ K, ghost m ρ K c)

theorem slot_bigSep (Φ : Slot → sProp 𝕄) :
    bigSep Finset.univ Φ = iprop(Φ (.inl ()) ∗ (bigSep Finset.univ fun o : Fin 7 => Φ (.inr (.inl o))) ∗ bigSep Finset.univ fun o : Fin 7 => Φ (.inr (.inr o))) := by
  rw [bigSep_univ_sum, bigSep_univ_sum, bigSep_univ_of_subsingleton ()]
  rfl

theorem fund_exchange : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Slot => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (Rd m ρ) exCells exToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun o => semVal (sndCell c o) 0) ∗ bigSep Finset.univ fun o => semVal (rcvCell c o) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Slot => semVal (kcell (c, k)) 0 : sProp 𝕄) := by
  rw [ownSems0_eq, unscopedSems0_eq, slot_bigSep]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Slot => semVal (kcell (c, k)) 0) ∗ bigSep Finset.univ fun k : Slot => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- `c`'s `o`-th signal pays duty `o.rev` of `peer c o`'s barrier; `c`'s `o`-th transfer pays receive cell `o` of `peer c o`. -/
def sigEquiv : Dev nD × Fin 7 ≃ Dev nD × Fin 7 where
  toFun p := (peer p.1 p.2, p.2.rev)
  invFun p := (peer p.1 p.2, p.2.rev)
  left_inv p := Prod.ext (peer_rev p.1 p.2) (Fin.rev_rev p.2)
  right_inv p := Prod.ext (peer_rev p.1 p.2) (Fin.rev_rev p.2)
def sendEquiv : Dev nD × Fin 7 ≃ Dev nD × Fin 7 where
  toFun p := (peer p.1 p.2, p.2)
  invFun p := (back p.1 p.2, p.2)
  left_inv p := Prod.ext (back_peer p.1 p.2) rfl
  right_inv p := Prod.ext (peer_back p.1 p.2) rfl

theorem dealt (e : Dev nD × Fin 7 ≃ Dev nD × Fin 7) (Φ : Dev nD × Fin 7 → sProp 𝕄) :
    (bigSep Finset.univ fun c : Dev nD => bigSep Finset.univ fun o : Fin 7 => Φ (c, o))
      = bigSep Finset.univ fun c : Dev nD => bigSep Finset.univ fun o : Fin 7 => Φ (e (c, o)) := by
  rw [← bigSep_univ_prod, ← bigSep_univ_prod (fun p => Φ (e p))]
  exact bigSep_univ_equiv e Φ

/-- What stays with device `c`: the tokens of the duties it pays. -/
def payToks (c : Dev nD) : sProp 𝕄 :=
  iprop((bigSep Finset.univ fun o : Fin 7 => dutyTok ER (barCell (peer c o)) 0 o.rev)
    ∗ (bigSep Finset.univ fun o : Fin 7 => dutyTok ER (rcvCell (peer c o) o) 0 0)
    ∗ bigSep Finset.univ fun o : Fin 7 => dutyTok ER (sndCell c o) 0 0)

theorem toks_around : (bigSep Finset.univ fun c : Dev nD => (toks c : sProp 𝕄)) ⊢ bigSep Finset.univ fun c : Dev nD => payToks c := by
  unfold toks payToks
  simp only [bigSep_sep']
  have h1 := dealt (F := F) sigEquiv (fun p => dutyTok ER (barCell p.1) 0 p.2)
  have h2 := dealt (F := F) sendEquiv (fun p => dutyTok ER (rcvCell p.1 p.2) 0 0)
  iintro ⟨H1, H2, H3⟩
  isplitl [H1]; · iapply (Entails.of_eq h1); iexact H1
  isplitl [H3]; · iapply (Entails.of_eq h2); iexact H3
  iexact H2

def linear (c : Dev nD) : sProp 𝕄 :=
  iprop((bigSep Finset.univ fun k : Slot => atPos ER (kcell (c, k)) 0 ∅ 0) ∗ payToks (F := F) c)

theorem ghost_intro (K : Dev nD × Slot → ℕ) (c : Dev nD) : iprop(recs m ρ K ∗ linear (F := F) c) ⊢ G' m ρ c := by
  unfold linear payToks G' ghost
  rw [slot_bigSep]
  iintro ⟨#HR, ⟨HaB, HaS, HaV⟩, HtB, HtV, HtS⟩
  iexists K
  isplitr; · iexact HR
  isplitl [HaB]; · iexact HaB
  isplitl [HaS]; · iexact HaS
  isplitl [HaV]; · iexact HaV
  isplitl [HtB]; · iexact HtB
  isplitl [HtV] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × Slot => iprop(∃ κ : ℕ, cellInv ER (Rd m ρ) κ (kcell ck))),
    bigSep_congr (s := Finset.univ) (fun (c : Dev nD) _ => bigSep_sep' Finset.univ (fun k : Slot => (atPos ER (kcell (c, k)) 0 ∅ 0 : sProp 𝕄)) (fun k => reached ER (kcell (c, k)) 0)),
    bigSep_sep', ← bigSep_univ_prod (fun ck : Dev nD × Slot => (reached ER (kcell ck) 0 : sProp 𝕄))]
  iintro ⟨HI, ⟨Hat, #HR⟩, Htok⟩
  ihave HK := (BI.bigSep_exists_pi Finset.univ (fun (ck : Dev nD × Slot) (κ : ℕ) => (cellInv ER (Rd m ρ) κ (kcell ck) : sProp 𝕄))) $$ HI
  icases HK with ⟨%K, #HI⟩
  ihave Htk := (toks_around (F := F)) $$ Htok
  iapply (with_persistent (R := recs m ρ K) fun c _ => ghost_intro m ρ K c)
  isplitr
  · unfold recs
    rw [bigSep_sep']
    isplitl; · iexact HI
    iexact HR
  · unfold linear
    rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : barCell a = barCell b ↔ a = b :=
  ⟨fun h => congrArg Prod.fst (kcell_injective (a₁ := (a, .inl ())) (a₂ := (b, .inl ())) h), fun h => h ▸ rfl⟩
theorem rcv_eq_iff {a b : Dev nD} {o o' : Fin 7} : rcvCell a o = rcvCell b o' ↔ a = b ∧ o = o' :=
  ⟨fun h => by
      have h' := kcell_injective (a₁ := (a, .inr (.inr o))) (a₂ := (b, .inr (.inr o'))) h
      exact ⟨congrArg Prod.fst h', Sum.inr.inj (Sum.inr.inj (congrArg Prod.snd h'))⟩,
    fun h => by rw [h.1, h.2]⟩
theorem bar_ne_rcv {a b : Dev nD} {o : Fin 7} : barCell a ≠ rcvCell b o := fun h => by
  have h' := congrArg Prod.snd (kcell_injective (a₁ := (a, .inl ())) (a₂ := (b, .inr (.inr o))) h)
  cases h'

theorem count_bar : ∀ c : Dev nD, (∑ d : Dev nD, ∑ o : Fin 7, if c = peer d o then 1 else 0) = 7 := by decide +kernel
theorem count_rcv : ∀ (c : Dev nD) (o : Fin 7), (∑ d : Dev nD, ∑ o' : Fin 7, if c = peer d o' ∧ o = o' then 1 else 0) = 1 := by decide +kernel

theorem owed_bar (d c : Dev nD) : O₀ d (barCell c) () = ∑ o : Fin 7, if c = peer d o then 1 else 0 := by
  unfold O₀ owedR owedB
  rw [tail_zero, Pi.add_apply, Finsupp.add_apply, Finset.sum_apply, Finset.sum_apply, Finsupp.finset_sum_apply, Finsupp.finset_sum_apply,
    Finset.sum_eq_zero (fun o _ => by rw [tallyAt_apply, if_neg (fun h => bar_ne_rcv h.1)]), zero_add]
  exact Finset.sum_congr rfl fun o _ => by
    rw [tallyAt_apply]
    exact if_congr ⟨fun h => bar_eq_iff.mp h.1, fun h => ⟨bar_eq_iff.mpr h, rfl⟩⟩ rfl rfl
theorem owed_rcv (d c : Dev nD) (o : Fin 7) : O₀ d (rcvCell c o) () = (∑ o' : Fin 7, if c = peer d o' ∧ o = o' then 1 else 0) * N := by
  unfold O₀ owedR owedB
  rw [tail_zero, Pi.add_apply, Finsupp.add_apply, Finset.sum_apply, Finset.sum_apply, Finsupp.finset_sum_apply, Finsupp.finset_sum_apply,
    Finset.sum_eq_zero (s := Finset.univ) (f := fun o' => tallyAt (barCell (peer d o')) () 1 (rcvCell c o) ())
      (fun o' _ => by rw [tallyAt_apply, if_neg (fun h => bar_ne_rcv h.1.symm)]), add_zero, Finset.sum_mul]
  exact Finset.sum_congr rfl fun o' _ => by
    rw [tallyAt_apply, ite_mul, one_mul, zero_mul]
    exact if_congr ⟨fun h => rcv_eq_iff.mp h.1, fun h => ⟨rcv_eq_iff.mpr h, rfl⟩⟩ rfl rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]
theorem launch_rcv (c : Dev nD) (o : Fin 7) :
    tallyOn (rcvCell c o) (launchCredit (Pipeline.owing O₀) 0 (rcvCell c o)) = (tallyAt (rcvCell c o) () N : CellTallies nD τ sig Unit) := by
  unfold tallyAt; refine congrArg _ (Finsupp.ext fun u => ?_); cases u
  rw [Pipeline.launchCredit_owing, Finsupp.single_eq_same, Finset.sum_congr rfl fun d _ => owed_rcv d c o, ← Finset.sum_mul, count_rcv, one_mul]

theorem rcvSem_inj : Function.Injective fun o : Fin 7 => (SemLoc.dma (rcvS o) : SemLoc sig) := fun o o' h =>
  Sum.inr.inj (Sum.inr.inj (csem_inj (a₁ := .inr (.inr o)) (a₂ := .inr (.inr o')) h))

theorem creds_intro (c : Dev nD) : (Pipeline.launchCred O₀ c : sProp 𝕄) ⊢ creds (F := F) c := by
  unfold Pipeline.launchCred creds
  rw [bigSep_univ_at _ (SemLoc.reg barS), launch_bar]
  refine sep_mono_right ?_
  refine (bigSep_subset (t := Finset.univ.map ⟨fun o : Fin 7 => (SemLoc.dma (rcvS o) : SemLoc sig), rcvSem_inj⟩) ?_).trans ?_
  · intro x hx
    obtain ⟨o, -, rfl⟩ := Finset.mem_map.mp hx
    exact Finset.mem_erase.mpr ⟨fun h => (nomatch h), Finset.mem_univ _⟩
  · rw [bigSep_map]
    exact Entails.of_eq (bigSep_congr fun o _ => congrArg cred (launch_rcv c o))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H1, H2⟩
  isplitl [Hs]; · iexact Hs
  isplitl [H1] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁
  iintro ⟨H1, H2, HzS, HzV, HzB⟩
  isplitl [HzB]; · iexact HzB
  isplitl [HzS HzV]
  · isplitl [HzS] <;> iassumption
  isplitl [H1] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, over any float values, from any memory with zero counters: every weakly fair execution of the
    whole program terminates, and every final state has each device's arrays at the computed contents and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
# The frame claims

Read off the runs: the kernel's (`run_main`) at the bit-exact and at the ideal instance, and the reference's.
-/
module

public import proofs.«01_k».proof.Proof.Launch
public import proofs.«01_k».proof.Proof.Gen.Kernel
public import proofs.«01_k».proof.Proof.Gen.ReferenceIdeal.Run
public import proofs.«01_k».proof.Defs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The four input arrays end as they began: no write goes back to them. -/
theorem finalA_x (c : Dev nD) : finalA m ρ c (0 : Fin 5) = m ((c : Thread nD τ).loc main_arg0) := (dats m ρ 0 c).arrAt_in (0 : Fin 5) rfl _
theorem finalA_w (c : Dev nD) : finalA m ρ c (1 : Fin 5) = m ((c : Thread nD τ).loc main_arg1) := (dats m ρ 0 c).arrAt_in (1 : Fin 5) rfl _
theorem finalA_i (c : Dev nD) : finalA m ρ c (2 : Fin 5) = m ((c : Thread nD τ).loc main_arg2) := (dats m ρ 0 c).arrAt_in (2 : Fin 5) rfl _
theorem finalA_e (c : Dev nD) : finalA m ρ c (3 : Fin 5) = m ((c : Thread nD τ).loc main_arg3) := (dats m ρ 0 c).arrAt_in (3 : Fin 5) rfl _

/-- The input windows' one block is the whole array. -/
theorem xIn_eq (c : Dev nD) : xIn m ρ c = m ((c : Thread nD τ).loc main_arg0) :=
  Memref.read_access_unit_zero (Elt F) main_arg0 (funext fun a => by fin_cases a <;> decide) (fun a => by fin_cases a <;> decide) _
theorem wIn_eq (c : Dev nD) : wIn m ρ c = m ((c : Thread nD τ).loc main_arg1) :=
  Memref.read_access_unit_zero (Elt F) main_arg1 (funext fun a => by fin_cases a <;> decide) (fun a => by fin_cases a <;> decide) _
theorem iIn_eq (c : Dev nD) : iIn m ρ c = m ((c : Thread nD τ).loc main_arg2) :=
  Memref.read_access_unit_zero (Elt F) main_arg2 (funext fun a => by fin_cases a <;> decide) (fun a => by fin_cases a <;> decide) _
theorem eIn_eq (c : Dev nD) : eIn m ρ c = m ((c : Thread nD τ).loc main_arg3) :=
  Memref.read_access_unit_zero (Elt F) main_arg3 (funext fun a => by fin_cases a <;> decide) (fun a => by fin_cases a <;> decide) _

/-- The result array ends holding what the body stored. -/
theorem finalA_out (c : Dev nD) : finalA m ρ c (4 : Fin 5) = outAt m ρ c := by
  have hr : (win0_4.blk (0 : Fin 1)).view.read (Elt F) (finalA m ρ c (4 : Fin 5)) = finalA m ρ c (4 : Fin 5) :=
    Memref.read_access_unit_zero (Elt F) main_v1 (funext fun a => by fin_cases a <;> decide) (fun a => by fin_cases a <;> decide) _
  refine hr.symm.trans ?_
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- The argument arrays unchanged and the counters at zero, over any float values. -/
theorem run_frame : θ_run defs (onTc (τ := τ) (main (F := F))) (s₀ m ρ) fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0 :=
  (θ_run defs _ _).mono (fun _ h => ⟨fun c => ⟨(h.1 c (0 : Fin 5)).trans (finalA_x m ρ c), (h.1 c (1 : Fin 5)).trans (finalA_w m ρ c),
    (h.1 c (2 : Fin 5)).trans (finalA_i m ρ c), (h.1 c (3 : Fin 5)).trans (finalA_e m ρ c)⟩, h.2⟩) (run_main m ρ)

theorem frame_ideal : Cert.quiescent_KernelIdeal := fun m ρ _ => run_frame (F := Ideal) m ρ

theorem body_same : Cert.Kernel.cc0_body (F := Bits) = Cert.KernelIdeal.cc0_body (F := Bits) := rfl
/-- No operation was rewritten: the two printed programs have one body, -/
theorem bodies_same : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ => rfl
  | ⟨_ + 1, h⟩ => exact absurd h (Nat.not_lt.2 (Nat.le_add_left _ _))
theorem defs_same : Cert.Kernel.defs (F := Bits) = Cert.KernelIdeal.defs (F := Bits) := by
  unfold Cert.Kernel.defs Cert.KernelIdeal.defs
  rw [bodies_same]
  rfl

/-- so the run at the bit-exact floats is the printed kernel's. -/
theorem frame_kernel : Cert.quiescent_Kernel := fun m ρ _ => by
  rw [defs_same]
  exact run_frame (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Gate.lean ====
module

public import Idealize.ShloMosaic.PureOps.Ideal.Laws
public import Mathlib.Tactic.FieldSimp
public import Mathlib.Tactic.Positivity

@[expose] public section

noncomputable section

open Idealize.ShloMosaic
open scoped BigOperators

/-! The mathematics of one token's row, away from arrays: what the kernel's gates and the reference's gates are, and that the two
    weighted sums of expert outputs agree. -/
namespace Cert.Moe.Gate

/-- The score of expert `e` for one token `x`. -/
def score (x : Fin 256 → EReal) (w : Fin 256 → Fin 32 → EReal) (e : Fin 32) : EReal := ∑ t, x t * w t e

/-- The unnormalised probability: the exponential of the score less the row's largest score. -/
def weight (x : Fin 256 → EReal) (w : Fin 256 → Fin 32 → EReal) (e : Fin 32) : EReal :=
  Ideal.exp (score x w e - (Finset.univ : Finset (Fin 32)).fold max ⊥ (score x w))

/-- The word names one of the 32 experts. -/
def Names (i : BitVec 32) : Prop := 0 ≤ i.toInt ∧ i.toInt ≤ 31

instance (i : BitVec 32) : Decidable (Names i) := inferInstanceAs (Decidable (_ ∧ _))

/-- The expert a word is read at, clamped to the 32. -/
def named (i : BitVec 32) : Fin 32 := ⟨min i.toInt.toNat 31, by omega⟩

/-- Expert `e` is one of the two a token is routed to. -/
def Sel (i0 i1 : BitVec 32) (e : Fin 32) : Prop := BitVec.ofNat 32 e.val = i0 ∨ BitVec.ofNat 32 e.val = i1

instance (i0 i1 : BitVec 32) (e : Fin 32) : Decidable (Sel i0 i1 e) := inferInstanceAs (Decidable (_ ∨ _))

/-- The weights of the routed experts, zero elsewhere. -/
def chosen (p : Fin 32 → EReal) (i0 i1 : BitVec 32) (e : Fin 32) : EReal := if Sel i0 i1 e then p e else 0

/-- The kernel's gate: a routed weight over the sum of the routed weights. -/
def gate (p : Fin 32 → EReal) (i0 i1 : BitVec 32) (e : Fin 32) : EReal :=
  Ideal.div (chosen p i0 i1 e) (∑ f, chosen p i0 i1 f)

/-- The kernel's row: every expert's product of the gated token. -/
def kernelRow (x : Fin 256 → EReal) (w : Fin 256 → Fin 32 → EReal) (i0 i1 : BitVec 32) (W : Fin 32 → Fin 256 → EReal) : EReal :=
  ∑ e, ∑ t, (x t * gate (weight x w) i0 i1 e) * W e t

/-- A value looked up at a word, zero when the word names no expert. -/
def look (f : Fin 32 → EReal) (i : BitVec 32) : EReal := if Names i then f (named i) else 0

/-- The softmax over the 32 experts. -/
def soft (p : Fin 32 → EReal) (e : Fin 32) : EReal := Ideal.div (p e) (∑ f, p f)

/-- The reference's row: the two looked-up experts' products, weighted by the renormalised softmax. -/
def refRow (x : Fin 256 → EReal) (w : Fin 256 → Fin 32 → EReal) (i0 i1 : BitVec 32) (W : Fin 32 → Fin 256 → EReal) : EReal :=
  Ideal.div (look (soft (weight x w)) i0) (look (soft (weight x w)) i0 + look (soft (weight x w)) i1)
      * (∑ t, x t * look (fun e => W e t) i0)
    + Ideal.div (look (soft (weight x w)) i1) (look (soft (weight x w)) i0 + look (soft (weight x w)) i1)
      * (∑ t, x t * look (fun e => W e t) i1)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum {ι : Type} (s : Finset ι) (g : ℝ) (hg : 0 ≤ g) (f : ι → EReal) :
    (g : EReal) * ∑ i ∈ s, f i = ∑ i ∈ s, (g : EReal) * f i := by
  classical
  induction s using Finset.induction_on with
  | empty => simp
  | insert a s ha ih =>
    rw [Finset.sum_insert ha, Finset.sum_insert ha,
      EReal.left_distrib_of_nonneg_of_ne_top (by exact_mod_cast hg) (EReal.coe_ne_top g), ih]

/-- With a finite token and finite router weights, every weight is a positive real. -/
theorem weight_pos (x : Fin 256 → EReal) (w : Fin 256 → Fin 32 → EReal) (hx : ∀ t, ∃ a : ℝ, x t = a)
    (hw : ∀ t e, ∃ a : ℝ, w t e = a) : ∃ P : Fin 32 → ℝ, (∀ e, 0 < P e) ∧ weight x w = fun e => (P e : EReal) := by
  choose X hX using hx
  choose V hV using hw
  have hs : ∀ e, score x w e = ((∑ t, X t * V t e : ℝ) : EReal) := fun e => by
    unfold score
    rw [coe_sum]
    exact Finset.sum_congr rfl fun t _ => by rw [hX, hV, EReal.coe_mul]
  obtain ⟨b, -, hb⟩ := Finset.exists_mem_eq_sup (Finset.univ : Finset (Fin 32)) Finset.univ_nonempty (score x w)
  have hf : (Finset.univ : Finset (Fin 32)).fold max ⊥ (score x w) = score x w b := hb
  refine ⟨fun e => Real.exp ((∑ t, X t * V t e) - ∑ t, X t * V t b), fun e => Real.exp_pos _, funext fun e => ?_⟩
  unfold weight
  rw [hf, hs, hs, ← EReal.coe_sub, Ideal.exp_coe]

theorem ofNat_eq_iff (i : BitVec 32) (e : Fin 32) : BitVec.ofNat 32 e.val = i ↔ Names i ∧ e = named i := by
  have he := e.isLt
  have key : i.toInt = (i.toNat : Int) ∧ i.toNat < 2147483648 ∨ i.toInt < 0 ∧ 2147483648 ≤ i.toNat := by
    have h1 := BitVec.toInt_eq_toNat_cond i
    have h2 := i.isLt
    split at h1 <;> omega
  rw [← BitVec.toNat_inj, BitVec.toNat_ofNat, Nat.mod_eq_of_lt (by omega)]
  unfold Names named
  rw [Fin.ext_iff]
  show e.val = i.toNat ↔ (0 ≤ i.toInt ∧ i.toInt ≤ 31) ∧ e.val = min i.toInt.toNat 31
  omega

theorem sel_iff (i0 i1 : BitVec 32) (e : Fin 32) :
    Sel i0 i1 e ↔ (Names i0 ∧ e = named i0) ∨ (Names i1 ∧ e = named i1) := by
  unfold Sel
  rw [ofNat_eq_iff, ofNat_eq_iff]

/-- A weighted row with real nonnegative gates is the gates times the experts' products. -/
theorem row_of_gates (x : Fin 256 → EReal) (w : Fin 256 → Fin 32 → EReal) (i0 i1 : BitVec 32) (W : Fin 32 → Fin 256 → EReal)
    (G : Fin 32 → ℝ) (hG : ∀ e, 0 ≤ G e) (h : ∀ e, gate (weight x w) i0 i1 e = (G e : EReal)) :
    kernelRow x w i0 i1 W = ∑ e, (G e : EReal) * ∑ t, x t * W e t := by
  unfold kernelRow
  refine Finset.sum_congr rfl fun e _ => ?_
  rw [mul_sum _ _ (hG e), h e]
  exact Finset.sum_congr rfl fun t _ => by rw [mul_comm (x t), mul_assoc]

/-- One expert routed to: its gate is one. -/
theorem row_single (x : Fin 256 → EReal) (w : Fin 256 → Fin 32 → EReal) (i0 i1 : BitVec 32) (W : Fin 32 → Fin 256 → EReal)
    (P : Fin 32 → ℝ) (hP : ∀ e, 0 < P e) (hp : weight x w = fun e => (P e : EReal)) (n : Fin 32)
    (hn : ∀ e, Sel i0 i1 e ↔ e = n) : kernelRow x w i0 i1 W = ∑ t, x t * W n t := by
  have hc : ∀ e, chosen (weight x w) i0 i1 e = if e = n then (P n : EReal) else 0 := fun e => by
    unfold chosen
    by_cases h : e = n
    · rw [if_pos ((hn e).2 h), if_pos h, hp, h]
    · rw [if_neg (fun h' => h ((hn e).1 h')), if_neg h]
  have hsum : ∑ f, chosen (weight x w) i0 i1 f = (P n : EReal) := by
    rw [Finset.sum_congr rfl fun f _ => hc f, Finset.sum_ite_eq' Finset.univ n, if_pos (Finset.mem_univ n)]
  have hg : ∀ e, gate (weight x w) i0 i1 e = ((if e = n then 1 else 0 : ℝ) : EReal) := fun e => by
    unfold gate
    rw [hsum, hc, Ideal.div_coe (hP n).ne']
    by_cases h : e = n
    · rw [if_pos h, if_pos h, ← EReal.coe_mul, mul_one_div_cancel (hP n).ne']
    · rw [if_neg h, if_neg h, zero_mul]; rfl
  rw [row_of_gates x w i0 i1 W _ (fun e => by split <;> norm_num) hg, Finset.sum_eq_single n]
  · rw [if_pos rfl, EReal.coe_one, one_mul]
  · intro e _ h
    rw [if_neg h, EReal.coe_zero, zero_mul]
  · exact fun h => absurd (Finset.mem_univ n) h

/-- Two experts routed to: each gate is its weight over the two weights' sum. -/
theorem row_pair (x : Fin 256 → EReal) (w : Fin 256 → Fin 32 → EReal) (i0 i1 : BitVec 32) (W : Fin 32 → Fin 256 → EReal)
    (P : Fin 32 → ℝ) (hP : ∀ e, 0 < P e) (hp : weight x w = fun e => (P e : EReal)) (n k : Fin 32) (hnk : n ≠ k)
    (hn : ∀ e, Sel i0 i1 e ↔ e = n ∨ e = k) :
    kernelRow x w i0 i1 W = ((P n / (P n + P k) : ℝ) : EReal) * (∑ t, x t * W n t)
      + ((P k / (P n + P k) : ℝ) : EReal) * (∑ t, x t * W k t) := by
  have hS : P n + P k ≠ 0 := (add_pos (hP n) (hP k)).ne'
  have hc : ∀ e, chosen (weight x w) i0 i1 e = (if e = n then (P n : EReal) else 0) + (if e = k then (P k : EReal) else 0) :=
    fun e => by
    unfold chosen
    by_cases h : e = n
    · subst h
      rw [if_pos ((hn e).2 (.inl rfl)), if_pos rfl, if_neg hnk, add_zero, hp]
    · by_cases h2 : e = k
      · subst h2
        rw [if_pos ((hn e).2 (.inr rfl)), if_neg h, if_pos rfl, zero_add, hp]
      · rw [if_neg (fun h' => ((hn e).1 h').elim h h2), if_neg h, if_neg h2, add_zero]
  have hsum : ∑ f, chosen (weight x w) i0 i1 f = ((P n + P k : ℝ) : EReal) := by
    rw [Finset.sum_congr rfl fun f _ => hc f, Finset.sum_add_distrib, Finset.sum_ite_eq' Finset.univ n,
      Finset.sum_ite_eq' Finset.univ k, if_pos (Finset.mem_univ n), if_pos (Finset.mem_univ k), EReal.coe_add]
  have hg : ∀ e, gate (weight x w) i0 i1 e
      = ((if e = n then P n / (P n + P k) else if e = k then P k / (P n + P k) else 0 : ℝ) : EReal) := fun e => by
    unfold gate
    rw [hsum, hc, Ideal.div_coe hS]
    by_cases h : e = n
    · subst h
      rw [if_pos rfl, if_neg hnk, if_pos rfl, add_zero, ← EReal.coe_mul, mul_one_div]
    · by_cases h2 : e = k
      · subst h2
        rw [if_neg h, if_pos rfl, if_neg h, if_pos rfl, zero_add, ← EReal.coe_mul, mul_one_div]
      · rw [if_neg h, if_neg h2, if_neg h, if_neg h2, add_zero, zero_mul]; rfl
  have hpos : ∀ e, 0 ≤ P e / (P n + P k) := fun e => div_nonneg (hP e).le (add_pos (hP n) (hP k)).le
  rw [row_of_gates x w i0 i1 W _ (fun e => by split; exact hpos _; split; exact hpos _; exact le_refl _) hg,
    Finset.sum_eq_add n k hnk]
  · rw [if_pos rfl, if_neg hnk.symm, if_pos rfl]
  · intro e _ h
    rw [if_neg h.1, if_neg h.2, EReal.coe_zero, zero_mul]
  · exact fun h => absurd (Finset.mem_univ n) h
  · exact fun h => absurd (Finset.mem_univ k) h

/-- The softmax of positive real weights, as a real. -/
theorem soft_coe (P : Fin 32 → ℝ) (hP : ∀ e, 0 < P e) (e : Fin 32) :
    soft (fun e => (P e : EReal)) e = ((P e / ∑ f, P f : ℝ) : EReal) := by
  have hq : 0 < ∑ f, P f := Finset.sum_pos (fun f _ => hP f) Finset.univ_nonempty
  unfold soft
  rw [← coe_sum, Ideal.div_coe hq.ne', ← EReal.coe_mul, mul_one_div]

/-- The kernel's row and the reference's row agree, where the token and router weights are finite and at least one of the two
    words names an expert. -/
theorem row_eq (x : Fin 256 → EReal) (w : Fin 256 → Fin 32 → EReal) (i0 i1 : BitVec 32) (W : Fin 32 → Fin 256 → EReal)
    (hx : ∀ t, ∃ a : ℝ, x t = a) (hw : ∀ t e, ∃ a : ℝ, w t e = a) (hi : Names i0 ∨ Names i1) :
    kernelRow x w i0 i1 W = refRow x w i0 i1 W := by
  obtain ⟨P, hP, hp⟩ := weight_pos x w hx hw
  have hq : 0 < ∑ f, P f := Finset.sum_pos (fun f _ => hP f) Finset.univ_nonempty
  have hl : ∀ i, Names i → look (soft (weight x w)) i = ((P (named i) / ∑ f, P f : ℝ) : EReal) := fun i h => by
    rw [look, if_pos h, hp, soft_coe P hP]
  have hz : ∀ (f : Fin 32 → EReal) i, ¬ Names i → look f i = 0 := fun f i h => by rw [look, if_neg h]
  have hy : ∀ i, Names i → (∑ t, x t * look (fun e => W e t) i) = ∑ t, x t * W (named i) t := fun i h =>
    Finset.sum_congr rfl fun t _ => by rw [look, if_pos h]
  have hpos : ∀ e, P e / ∑ f, P f ≠ 0 := fun e => (div_pos (hP e) hq).ne'
  unfold refRow
  by_cases h0 : Names i0
  · by_cases h1 : Names i1
    · have hs : P (named i0) / (∑ f, P f) + P (named i1) / (∑ f, P f) ≠ 0 :=
        (add_pos (div_pos (hP _) hq) (div_pos (hP _) hq)).ne'
      rw [hl i0 h0, hl i1 h1, hy i0 h0, hy i1 h1, ← EReal.coe_add, Ideal.div_coe hs, Ideal.div_coe hs, ← EReal.coe_mul,
        ← EReal.coe_mul]
      by_cases hn : named i0 = named i1
      · rw [row_single x w i0 i1 W P hP hp (named i1) fun e => by rw [sel_iff, hn]; simp [h0, h1], hn,
          ← EReal.right_distrib_of_nonneg, ← EReal.coe_add]
        · have : P (named i1) / (∑ f, P f) * (1 / (P (named i1) / (∑ f, P f) + P (named i1) / (∑ f, P f)))
              + P (named i1) / (∑ f, P f) * (1 / (P (named i1) / (∑ f, P f) + P (named i1) / (∑ f, P f))) = 1 := by
            have := hpos (named i1)
            generalize P (named i1) / (∑ f, P f) = a at this ⊢
            field_simp
          rw [this, EReal.coe_one, one_mul]
        all_goals
          have := div_pos (hP (named i1)) hq
          exact_mod_cast (by positivity : (0 : ℝ) ≤ P (named i1) / (∑ f, P f)
            * (1 / (P (named i1) / (∑ f, P f) + P (named i1) / (∑ f, P f))))
      · rw [row_pair x w i0 i1 W P hP hp (named i0) (named i1) hn fun e => by rw [sel_iff]; simp [h0, h1]]
        have e0 : P (named i0) / (P (named i0) + P (named i1))
            = P (named i0) / (∑ f, P f) * (1 / (P (named i0) / (∑ f, P f) + P (named i1) / (∑ f, P f))) := by
          have := hP (named i0); have := hP (named i1)
          field_simp
        have e1 : P (named i1) / (P (named i0) + P (named i1))
            = P (named i1) / (∑ f, P f) * (1 / (P (named i0) / (∑ f, P f) + P (named i1) / (∑ f, P f))) := by
          have := hP (named i0); have := hP (named i1)
          field_simp
        rw [e0, e1]
    · rw [row_single x w i0 i1 W P hP hp (named i0) fun e => by rw [sel_iff]; simp [h0, h1], hz _ i1 h1, hl i0 h0, hy i0 h0,
        add_zero, Ideal.div_coe (hpos _), Ideal.div_coe (hpos _), ← EReal.coe_mul, mul_one_div_cancel (hpos _), zero_mul,
        zero_mul, add_zero, EReal.coe_one, one_mul]
  · have h1 : Names i1 := hi.resolve_left h0
    rw [row_single x w i0 i1 W P hP hp (named i1) fun e => by rw [sel_iff]; simp [h0, h1], hz _ i0 h0, hl i1 h1, hy i1 h1,
      zero_add, Ideal.div_coe (hpos _), Ideal.div_coe (hpos _), ← EReal.coe_mul, mul_one_div_cancel (hpos _), zero_mul,
      zero_mul, zero_add, EReal.coe_one, one_mul]

end Cert.Moe.Gate
-- ==== Proof.KernelValue.lean ====
/-
# The kernel's product at an index

What one device's product holds at a row and a column: its four experts' part of the row of `Gate`.
-/
module

public import proofs.«01_k».proof.Proof.Gate
public import proofs.«01_k».proof.Proof.Protocol
public import Idealize.ShloMosaic.Lib.MatmulPlain
public import Idealize.ShloMosaic.Lib.ValueIdx
public import Idealize.ShloMosaic.Lib.Pipeline.Value

@[expose] public section

noncomputable section

namespace Cert.Moe

open Cert.KernelIdeal Cert.KernelIdeal.Gen
open Idealize.ShloMosaic Idealize.ShloMosaic.ValueIdx
open Idealize.ShloMosaic.TcCoe
open Cert.Moe.Gate
open scoped BigOperators

namespace Ker

/-! ## Words and bits -/

theorem select_iff {α : Type} {b : BitVec 1} {P : Prop} [Decidable P] (h : b = 1#1 ↔ P) (x y : α) :
    Scalar.select b x y = if P then x else y := by
  unfold Scalar.select
  by_cases hp : P
  · rw [if_pos hp]; exact if_pos (h.2 hp)
  · rw [if_neg hp]; exact if_neg (fun hb => hp (h.1 hb))

theorem ori_one_iff (a b : BitVec 1) : IntOp.ori a b = 1#1 ↔ a = 1#1 ∨ b = 1#1 := by
  revert a b; decide

theorem eq_iff (x y : BitVec 32) : IntOp.cmpi .eq x y = 1#1 ↔ x = y := by
  show BitVec.ofBool (x == y) = 1#1 ↔ _
  by_cases h : x = y
  · simp [h]
  · rw [show (x == y) = false from beq_eq_false_iff_ne.2 h]
    exact ⟨fun h' => absurd h' (by decide), fun h' => absurd h' h⟩

theorem bot_bits : (FloatOps.ofBits (F := Ideal) .f32 0xFF800000#32 : EReal) = ⊥ := by
  show Ideal.ofBits .f32 0xFF800000#32 = ⊥
  simp [Ideal.ofBits, Ideal.ieee]

theorem zero_bits : (FloatOps.ofBits (F := Ideal) .f32 0x00000000#32 : EReal) = 0 := Ideal.ofBits_zero_f32

/-! ## Columns and reductions -/

/-- A vector kept as a column, and a column laid along the rows. -/
theorem col_apply {α : Type} (v : S512.Idx → α) (r : Fin 512) (z : Fin 1) :
    shapeCast S512x1 v shapeCasts_S512_S512x1 (ix2 r z) = v (ix1 r) :=
  shapeCast_apply _ _ _ _ (by
    rw [Shape.rowMajor_val_two, Shape.rowMajor_val_one]
    show r.val = r.val * 1 + z.val
    omega)

theorem lay32_apply {α : Type} (v : S512x1.Idx → α) (r : Fin 512) (e : Fin 32) :
    broadcastTo S512x32 v broadcasts_S512x1_S512x32 (ix2 r e) = v (ix2 r (0 : Fin 1)) :=
  broadcastTo_apply _ _ _ _ fun a => match a with | ⟨0, _⟩ => rfl | ⟨1, _⟩ => rfl

theorem lay256_apply {α : Type} (v : S512x1.Idx → α) (r : Fin 512) (t : Fin 256) :
    broadcastTo S512x256 v broadcasts_S512x1_S512x256 (ix2 r t) = v (ix2 r (0 : Fin 1)) :=
  broadcastTo_apply _ _ _ _ fun a => match a with | ⟨0, _⟩ => rfl | ⟨1, _⟩ => rfl

theorem lift32 (r : Fin 512) (k : Fin 32) : reduces_S512x32_S512.lift (ix1 r) k = ix2 r k := by
  funext c; apply Fin.ext
  match c with
  | ⟨0, _⟩ => rfl
  | ⟨1, _⟩ => rfl

theorem rowSum_apply (v : FVec Ideal S512x32 .f32) (r : Fin 512) :
    multiReduction .add [1] S512 v 0x00000000#32 reduces_S512x32_S512 (.inl rfl) rfl (ix1 r) = ∑ k : Fin 32, v (ix2 r k) :=
  (Ideal.multiReduction_add_single v 0x00000000#32 reduces_S512x32_S512 (.inl rfl) rfl (ix1 r)).trans
    (Finset.sum_congr rfl fun k _ => congrArg v (lift32 r k))

theorem rowMax_apply (v : FVec Ideal S512x32 .f32) (r : Fin 512) :
    multiReduction .maximumf [1] S512 v 0xFF800000#32 reduces_S512x32_S512 (.inl rfl) rfl (ix1 r)
      = (Finset.univ : Finset (Fin 32)).fold max ⊥ (fun k => v (ix2 r k)) := by
  refine (Ideal.multiReduction_maximumf_single v 0xFF800000#32 reduces_S512x32_S512 (.inl rfl) rfl (ix1 r)).trans ?_
  rw [bot_bits]
  congr 1
  funext k
  exact congrArg v (lift32 r k)

/-! ## The weights and the gates -/

/-- Row `r` of the tokens, and the router's weights by coordinates. -/
abbrev row (x : Vec Ideal S512x256 .bf16) (r : Fin 512) : Fin 256 → EReal := fun t => x (ix2 r t)
abbrev mat (w : Vec Ideal S256x32 .bf16) : Fin 256 → Fin 32 → EReal := fun t e => w (ix2 t e)

theorem pay1_eq (x : Vec Ideal S512x256 .bf16) : k0_pay1 x = x := shapeCast_self _ _

/-- The scores. -/
def scores (x : Vec Ideal S512x256 .bf16) (w : Vec Ideal S256x32 .bf16) : FVec Ideal S512x32 .f32 :=
  matmul dot_S512x256_S256x32_S512x32_1_0_0_1_n_n none (k0_pay1 x) (shapeCast S256x32 w shapeCasts_S256x32_S256x32 : FVec Ideal S256x32 .bf16)
    (constant S512x32 .f32 0x00000000#32)

theorem scores_apply (x : Vec Ideal S512x256 .bf16) (w : Vec Ideal S256x32 .bf16) (r : Fin 512) (e : Fin 32) :
    scores x w (ix2 r e) = score (row x r) (mat w) e := by
  unfold scores
  rw [pay1_eq, shapeCast_self]
  refine (Ideal.matmul_plain_apply (M := 512) (K := 256) (N := 32) none x w (constant S512x32 .f32 0x00000000#32) r e).trans ?_
  rw [show (constant (F := Ideal) S512x32 .f32 0x00000000#32 (ix2 r e) : EReal) = 0 from zero_bits, zero_add]
  rfl

theorem weights_apply (x : Vec Ideal S512x256 .bf16) (w : Vec Ideal S256x32 .bf16) (r : Fin 512) (e : Fin 32) :
    k0_pay2 x w (ix2 r e) = weight (row x r) (mat w) e := by
  show Ideal.exp (scores x w (ix2 r e) - broadcastTo S512x32 (shapeCast S512x1
    (multiReduction .maximumf [1] S512 (scores x w) 0xFF800000#32 reduces_S512x32_S512 (.inl rfl) rfl) shapeCasts_S512_S512x1)
    broadcasts_S512x1_S512x32 (ix2 r e)) = _
  rw [lay32_apply, col_apply, rowMax_apply, scores_apply]
  unfold weight
  congr 3
  funext k
  exact scores_apply x w r k

/-- The experts' numbers along a row. -/
abbrev nums : IVec S512x32 32 := iota .tc S512x32 32 [1] iota_S512x32_d1_w32

theorem nums_apply (r : Fin 512) (e : Fin 32) : nums (ix2 r e) = BitVec.ofNat 32 e.val :=
  iota_single_apply .tc S512x32 32 1 iota_S512x32_d1_w32 (ix2 r e)

theorem mask_iff (i0 i1 : Vec Ideal S512x1 .i32) (r : Fin 512) (e : Fin 32) :
    k0_pay3 i0 i1 (ix2 r e) = 1#1 ↔ Sel (i0 (ix2 r (0 : Fin 1))) (i1 (ix2 r (0 : Fin 1))) e := by
  have h0 : broadcastTo S512x32 (shapeCast S512x1 i0 shapeCasts_S512x1_S512x1) broadcasts_S512x1_S512x32 (ix2 r e)
      = i0 (ix2 r (0 : Fin 1)) := by rw [lay32_apply, shapeCast_self]
  have h1 : broadcastTo S512x32 (shapeCast S512x1 i1 shapeCasts_S512x1_S512x1) broadcasts_S512x1_S512x32 (ix2 r e)
      = i1 (ix2 r (0 : Fin 1)) := by rw [lay32_apply, shapeCast_self]
  refine (ori_one_iff _ _).trans (or_congr ((eq_iff _ _).trans ?_) ((eq_iff _ _).trans ?_))
  · rw [show iota .tc S512x32 32 [1] iota_S512x32_d1_w32 (ix2 r e) = _ from nums_apply r e, h0]
  · rw [show iota .tc S512x32 32 [1] iota_S512x32_d1_w32 (ix2 r e) = _ from nums_apply r e, h1]

theorem gates_apply (p : FVec Ideal S512x32 .f32) (i0 i1 : Vec Ideal S512x1 .i32) (r : Fin 512) (e : Fin 32) :
    k0_pay4 p (k0_pay3 i0 i1) (ix2 r e)
      = gate (fun k => p (ix2 r k)) (i0 (ix2 r (0 : Fin 1))) (i1 (ix2 r (0 : Fin 1))) e := by
  let c : FVec Ideal S512x32 .f32 := select (k0_pay3 i0 i1) p (broadcast S512x32 (Scalar.ofBits .f32 0x00000000#32))
  have hc : ∀ k : Fin 32, c (ix2 r k)
      = chosen (fun k => p (ix2 r k)) (i0 (ix2 r (0 : Fin 1))) (i1 (ix2 r (0 : Fin 1))) k := fun k => by
    show Scalar.select (k0_pay3 i0 i1 (ix2 r k)) (p (ix2 r k)) (FloatOps.ofBits (F := Ideal) .f32 0x00000000#32 : EReal) = _
    rw [select_iff (mask_iff i0 i1 r k), zero_bits]
    rfl
  show Ideal.div (c (ix2 r e)) (broadcastTo S512x32 (shapeCast S512x1
    (multiReduction .add [1] S512 c 0x00000000#32 reduces_S512x32_S512 (.inl rfl) rfl) shapeCasts_S512_S512x1)
    broadcasts_S512x1_S512x32 (ix2 r e)) = _
  rw [lay32_apply, col_apply, rowSum_apply, hc, Finset.sum_congr rfl fun k _ => hc k]
  rfl

/-! ## The gated tokens -/

/-- The tokens times expert `v`'s gate. -/
def gated (v : BitVec 32) (x : FVec Ideal S512x256 .bf16) (g : FVec Ideal S512x32 .f32) : FVec Ideal S512x256 .bf16 :=
  mulf x (broadcastTo S512x256 (truncf .bf16 (shapeCast S512x1 (multiReduction .add [1] S512
    (select (cmpi .eq nums (broadcast S512x32 v)) g (broadcast S512x32 (Scalar.ofBits .f32 0x00000000#32)))
    0x00000000#32 reduces_S512x32_S512 (.inl rfl) rfl) shapeCasts_S512_S512x1 : FVec Ideal S512x1 .f32) bitsLt_bf16_f32)
    broadcasts_S512x1_S512x256)

theorem gated_apply (n : Fin 32) (x : FVec Ideal S512x256 .bf16) (g : FVec Ideal S512x32 .f32) (r : Fin 512) (t : Fin 256) :
    gated (BitVec.ofNat 32 n.val) x g (ix2 r t) = x (ix2 r t) * g (ix2 r n) := by
  unfold gated
  show x (ix2 r t) * _ = _
  rw [lay256_apply]
  congr 1
  rw [truncf_apply, col_apply, rowSum_apply]
  have hk : ∀ k : Fin 32, select (cmpi .eq nums (broadcast S512x32 (BitVec.ofNat 32 n.val))) g
      (broadcast S512x32 (Scalar.ofBits .f32 0x00000000#32)) (ix2 r k) = if k = n then g (ix2 r n) else 0 := fun k => by
    show Scalar.select (IntOp.cmpi .eq (nums (ix2 r k)) (BitVec.ofNat 32 n.val)) (g (ix2 r k))
      (FloatOps.ofBits (F := Ideal) .f32 0x00000000#32 : EReal) = _
    have hi : IntOp.cmpi .eq (nums (ix2 r k)) (BitVec.ofNat 32 n.val) = 1#1 ↔ k = n := by
      rw [eq_iff, nums_apply]
      constructor
      · intro h
        have h' := congrArg BitVec.toNat h
        rw [BitVec.toNat_ofNat, BitVec.toNat_ofNat, Nat.mod_eq_of_lt (by omega), Nat.mod_eq_of_lt (by omega)] at h'
        exact Fin.ext h'
      · rintro rfl; rfl
    rw [select_iff hi, zero_bits]
    by_cases h : k = n
    · rw [if_pos h, if_pos h, h]
    · rw [if_neg h, if_neg h]
  rw [Finset.sum_congr rfl fun k _ => hk k, Finset.sum_ite_eq' Finset.univ n, if_pos (Finset.mem_univ n)]

/-! ## The product -/

/-- Expert `k` of device `c`. -/
def expert (c : Dev nD) (k : Fin 4) : Fin 32 := ⟨4 * c.val + k.val, by have h : c.val < 8 := c.isLt; have := k.isLt; omega⟩

theorem expert_word (c : Dev nD) (k : Fin 4) :
    Scalar.addi (Scalar.muli (meWord c) 4#32) (BitVec.ofNat 32 k.val) = BitVec.ofNat 32 (expert c k).val := by
  revert c k; decide

/-- Position `t` of piece `k` of the 1024 positions contracted. -/
def pos (k : Fin 4) (t : Fin 256) : Fin 1024 := ⟨256 * k.val + t.val, by have := k.isLt; have := t.isLt; omega⟩

theorem sum_pos (f : Fin 1024 → EReal) : ∑ j, f j = ∑ k : Fin 4, ∑ t : Fin 256, f (pos k t) := by
  rw [← (finProdFinEquiv (m := 4) (n := 256)).sum_comp f, Fintype.sum_prod_type]
  refine Finset.sum_congr rfl fun k _ => Finset.sum_congr rfl fun t _ => congrArg f (Fin.ext ?_)
  show t.val + 256 * k.val = 256 * k.val + t.val
  omega

/-- The four gated copies side by side. -/
def side (a0 a1 a2 a3 : FVec Ideal S512x256 .bf16) : FVec Ideal S512x1024 .bf16 :=
  concatenate S512x1024 1 [⟨S512x256, a0⟩, ⟨S512x256, a1⟩, ⟨S512x256, a2⟩, ⟨S512x256, a3⟩]
    concatenates_S512x256_S512x256_S512x256_S512x256_S512x1024_d1

theorem side_apply (a : Fin 4 → FVec Ideal S512x256 .bf16) (k : Fin 4) (r : Fin 512) (t : Fin 256) :
    side (a 0) (a 1) (a 2) (a 3) (ix2 r (pos k t)) = a k (ix2 r t) := by
  refine concatenate_apply_piece (t := S512x1024) 1 [⟨S512x256, a 0⟩, ⟨S512x256, a 1⟩, ⟨S512x256, a 2⟩, ⟨S512x256, a 3⟩]
    concatenates_S512x256_S512x256_S512x256_S512x256_S512x1024_d1 (ix2 r (pos k t)) k.val k.isLt S512x256 (a k) ?_ rfl
    (256 * k.val) ?_ (ix2 r t) ?_ ?_
  · match k with
    | ⟨0, _⟩ => rfl
    | ⟨1, _⟩ => rfl
    | ⟨2, _⟩ => rfl
    | ⟨3, _⟩ => rfl
  · match k with
    | ⟨0, _⟩ => rfl
    | ⟨1, _⟩ => rfl
    | ⟨2, _⟩ => rfl
    | ⟨3, _⟩ => rfl
  · intro b hb
    match b, hb with
    | ⟨0, _⟩, _ => rfl
    | ⟨1, _⟩, hb => exact absurd rfl hb
  · rfl

/-- The experts' matrices stacked: row `256 k + t` is row `t` of matrix `k`. -/
def stack (e : Vec Ideal S4x256x512 .bf16) : FVec Ideal S1024x512 .bf16 :=
  shapeCast S1024x512 (shapeCast S4x256x512 e shapeCasts_S4x256x512_S4x256x512) shapeCasts_S4x256x512_S1024x512

theorem stack_apply (e : Vec Ideal S4x256x512 .bf16) (k : Fin 4) (t : Fin 256) (o : Fin 512) :
    stack e (ix2 (pos k t) o) = e (ix3 k t o) := by
  unfold stack
  rw [shapeCast_self]
  refine shapeCast_apply _ _ _ _ ?_
  rw [Shape.rowMajor_val_three, Shape.rowMajor_val_two]
  show (k.val * 256 + t.val) * 512 + o.val = (256 * k.val + t.val) * 512 + o.val
  omega

theorem accOf_eq (c : Dev nD) (x : Vec Ideal S512x256 .bf16) (w : Vec Ideal S256x32 .bf16) (i0 i1 : Vec Ideal S512x1 .i32)
    (e : Vec Ideal S4x256x512 .bf16) :
    accOf (meWord c) x w i0 i1 e
      = matmul dot_S512x1024_S1024x512_S512x512_1_0_0_1_n_n none
          (side (gated (Scalar.addi (Scalar.muli (meWord c) 4#32) 0#32) (k0_pay1 x) (k0_pay4 (k0_pay2 x w) (k0_pay3 i0 i1)))
            (gated (Scalar.addi (Scalar.muli (meWord c) 4#32) 1#32) (k0_pay1 x) (k0_pay4 (k0_pay2 x w) (k0_pay3 i0 i1)))
            (gated (Scalar.addi (Scalar.muli (meWord c) 4#32) 2#32) (k0_pay1 x) (k0_pay4 (k0_pay2 x w) (k0_pay3 i0 i1)))
            (gated (Scalar.addi (Scalar.muli (meWord c) 4#32) 3#32) (k0_pay1 x) (k0_pay4 (k0_pay2 x w) (k0_pay3 i0 i1))))
          (stack e) (constant S512x512 .f32 0x00000000#32) := rfl

/-- One device's product at a row and a column. -/
theorem accOf_apply (c : Dev nD) (x : Vec Ideal S512x256 .bf16) (w : Vec Ideal S256x32 .bf16) (i0 i1 : Vec Ideal S512x1 .i32)
    (e : Vec Ideal S4x256x512 .bf16) (r o : Fin 512) :
    accOf (meWord c) x w i0 i1 e (ix2 r o)
      = ∑ k : Fin 4, ∑ t : Fin 256, (row x r t * gate (weight (row x r) (mat w)) (i0 (ix2 r (0 : Fin 1))) (i1 (ix2 r (0 : Fin 1)))
          (expert c k)) * e (ix3 k t o) := by
  let a : Fin 4 → FVec Ideal S512x256 .bf16 := fun k =>
    gated (Scalar.addi (Scalar.muli (meWord c) 4#32) (BitVec.ofNat 32 k.val)) (k0_pay1 x) (k0_pay4 (k0_pay2 x w) (k0_pay3 i0 i1))
  rw [accOf_eq]
  refine (Ideal.matmul_plain_apply (M := 512) (K := 1024) (N := 512) none (side (a 0) (a 1) (a 2) (a 3)) (stack e)
    (constant S512x512 .f32 0x00000000#32) r o).trans ?_
  rw [show (constant (F := Ideal) S512x512 .f32 0x00000000#32 (ix2 r o) : EReal) = 0 from zero_bits, zero_add, sum_pos]
  refine Finset.sum_congr rfl fun k _ => Finset.sum_congr rfl fun t _ => ?_
  rw [side_apply, stack_apply]
  congr 1
  show gated (Scalar.addi (Scalar.muli (meWord c) 4#32) (BitVec.ofNat 32 k.val)) (k0_pay1 x) (k0_pay4 (k0_pay2 x w) (k0_pay3 i0 i1))
    (ix2 r t) = _
  rw [expert_word, gated_apply, pay1_eq, gates_apply]
  congr 2
  funext k
  exact weights_apply x w r k

/-- The two columns of the words. -/
theorem idxCol0_apply (f : (cc0_stg2_0 : Ref sig .tc).ty.Contents (Elt Ideal)) (r : Fin 512) :
    idxCol0 f (ix2 r (0 : Fin 1)) = (show S512x2.Idx → BitVec 32 from f) (ix2 r (0 : Fin 2)) := by
  refine congrArg (show S512x2.Idx → BitVec 32 from f) ?_
  funext a; apply Fin.ext
  match a with
  | ⟨0, _⟩ => show 0 + 1 * r.val = r.val; omega
  | ⟨1, _⟩ => rfl

theorem idxCol1_apply (f : (cc0_stg2_0 : Ref sig .tc).ty.Contents (Elt Ideal)) (r : Fin 512) :
    idxCol1 f (ix2 r (0 : Fin 1)) = (show S512x2.Idx → BitVec 32 from f) (ix2 r (1 : Fin 2)) := by
  refine congrArg (show S512x2.Idx → BitVec 32 from f) ?_
  funext a; apply Fin.ext
  match a with
  | ⟨0, _⟩ => show 0 + 1 * r.val = r.val; omega
  | ⟨1, _⟩ => rfl

end Ker

end Cert.Moe
-- ==== Proof.OutValue.lean ====
/-
# What a device stores, at an index

A device stores its own rows of all eight products, summed; over the extended reals that is the kernel's row of `Gate`.
-/
module

public import proofs.«01_k».proof.Proof.Frames
public import proofs.«01_k».proof.Proof.KernelValue

@[expose] public section

noncomputable section

namespace Cert.Moe

open Cert.KernelIdeal Cert.KernelIdeal.Gen
open Idealize.ShloMosaic Idealize.ShloMosaic.ValueIdx
open Idealize.ShloMosaic.TcCoe
open Cert.Moe.Gate
open scoped BigOperators

namespace Out

variable (m : (ℓ : Loc nD τ sig) → Buf (Elt Ideal) ℓ) (ρ : Dev nD → PrngReg)

/-- Device `d`'s product in the rows that device `c` keeps. -/
def part (c d : Dev nD) (r : Fin 64) (o : Fin 512) : EReal := accAt (F := Ideal) m ρ d (ix2 (slotRow c r) o)

theorem sbuf_apply (d : Dev nD) (i : S8x64x512.Idx) (c : Dev nD) (r : Fin 64) (o : Fin 512)
    (h0 : (i 0).val = c.val) (h1 : (i 1).val = r.val) (h2 : (i 2).val = o.val) :
    (sbuf (F := Ideal) m ρ d i : EReal) = part m ρ c d r o := by
  show accAt (F := Ideal) m ρ d (ix2 (slotRow (i 0) (i 1)) (i 2)) = accAt (F := Ideal) m ρ d (ix2 (slotRow c r) o)
  rw [show i 0 = c from Fin.ext h0, show i 1 = r from Fin.ext h1, show i 2 = o from Fin.ext h2]

/-- A slot laid out as a matrix of rows. -/
theorem flat_apply (v : FVec Ideal S1x64x512 .bf16) (r : Fin 64) (o : Fin 512) :
    (shapeCast S64x512 v shapeCasts_S1x64x512_S64x512 : FVec Ideal S64x512 .bf16) (ix2 r o) = v (ix3 (0 : Fin 1) r o) := by
  refine (shapeCast_dropUnit_apply ![64, 512] v shapeCasts_S1x64x512_S64x512 (ix2 r o)).trans (congrArg v ?_)
  funext a
  match a with
  | ⟨0, _⟩ => rfl
  | ⟨1, _⟩ => rfl
  | ⟨2, _⟩ => rfl

theorem own_apply (c : Dev nD) (r : Fin 64) (o : Fin 512) :
    (ownSlot (F := Ideal) m ρ c (ix3 (0 : Fin 1) r o) : EReal) = part m ρ c c r o := by
  refine sbuf_apply m ρ c _ c r o ?_ ?_ ?_
  · show k0_off2 c 0 + 1 * 0 = c.val
    rw [k0_off2_eq]; rfl
  · show k0_off2 c 1 + 1 * r.val = r.val
    rw [k0_off2_eq]; show 0 + 1 * r.val = r.val; omega
  · show k0_off2 c 2 + 1 * o.val = o.val
    rw [k0_off2_eq]; show 0 + 1 * o.val = o.val; omega

theorem recv_apply (c : Dev nD) (j : Fin 7) (r : Fin 64) (o : Fin 512) :
    (recvSlot (F := Ideal) m ρ c j (ix3 (0 : Fin 1) r o) : EReal) = part m ρ c (back c j) r o := by
  have key : ∀ i : S7x64x512.Idx, (i 0).val = j.val → (i 1).val = r.val → (i 2).val = o.val →
      (rbuf (F := Ideal) m ρ c i : EReal) = part m ρ c (back c j) r o := by
    intro i h0 h1 h2
    show (sbuf (F := Ideal) m ρ (back c (i 0)) (ix3 c (i 1) (i 2)) : EReal) = _
    rw [show i 0 = j from Fin.ext h0]
    exact sbuf_apply m ρ (back c j) _ c r o rfl h1 h2
  refine key _ ?_ ?_ ?_
  · show j.val + 1 * 0 = j.val; omega
  · show 0 + 1 * r.val = r.val; omega
  · show 0 + 1 * o.val = o.val; omega

/-- The stored value, in the order of the program's sums. -/
theorem out_parts (c : Dev nD) (r : Fin 64) (o : Fin 512) :
    (outAt (F := Ideal) m ρ c (ix2 r o) : EReal) =
      part m ρ c c r o + part m ρ c (back c 0) r o + part m ρ c (back c 1) r o + part m ρ c (back c 2) r o
        + part m ρ c (back c 3) r o + part m ρ c (back c 4) r o + part m ρ c (back c 5) r o + part m ρ c (back c 6) r o := by
  rw [← own_apply, ← recv_apply, ← recv_apply, ← recv_apply, ← recv_apply, ← recv_apply, ← recv_apply, ← recv_apply]
  simp only [← flat_apply]
  rfl

theorem back_all : ∀ c : Dev nD, (Finset.univ : Finset (Dev nD)) =
    insert c ((Finset.univ : Finset (Fin 7)).image (back c)) := by decide
theorem back_ne : ∀ c : Dev nD, c ∉ (Finset.univ : Finset (Fin 7)).image (back c) := by decide
theorem back_inj : ∀ c : Dev nD, ∀ a b : Fin 7, back c a = back c b → a = b := by decide

/-- Itself and the seven behind it are all the devices. -/
theorem sum_back (c : Dev nD) (f : Dev nD → EReal) :
    f c + f (back c 0) + f (back c 1) + f (back c 2) + f (back c 3) + f (back c 4) + f (back c 5) + f (back c 6) = ∑ d, f d := by
  rw [back_all c, Finset.sum_insert (back_ne c), Finset.sum_image (fun a _ b _ h => back_inj c a b h), Fin.sum_univ_seven]
  simp only [add_assoc]

theorem out_sum (c : Dev nD) (r : Fin 64) (o : Fin 512) :
    (outAt (F := Ideal) m ρ c (ix2 r o) : EReal) = ∑ d, part m ρ c d r o := by
  rw [out_parts]
  exact sum_back c fun d => part m ρ c d r o

/-- Four experts on each of eight devices are the thirty-two. -/
theorem sum_expert (f : Fin 32 → EReal) : ∑ d : Dev nD, ∑ k : Fin 4, f (Ker.expert d k) = ∑ e, f e := by
  rw [← (finProdFinEquiv (m := 8) (n := 4)).sum_comp f, Fintype.sum_prod_type]
  refine Finset.sum_congr rfl fun d _ => Finset.sum_congr rfl fun k _ => congrArg f (Fin.ext ?_)
  show 4 * d.val + k.val = k.val + 4 * d.val
  omega

/-- On devices that hold the same tokens, router and indices, and each its four of the experts, the stored rows are the kernel's. -/
theorem out_row (x : S512x256.Idx → EReal) (w : S256x32.Idx → EReal) (i : S512x2.Idx → BitVec 32)
    (W : Fin 32 → Fin 256 → Fin 512 → EReal)
    (hx : ∀ d : Dev nD, xIn (F := Ideal) m ρ d = x) (hw : ∀ d : Dev nD, wIn (F := Ideal) m ρ d = w)
    (hi : ∀ d : Dev nD, iIn (F := Ideal) m ρ d = i)
    (he : ∀ (d : Dev nD) (k : Fin 4) (t : Fin 256) (o : Fin 512),
      ((show S4x256x512.Idx → EReal from eIn (F := Ideal) m ρ d) (ix3 k t o)) = W (Ker.expert d k) t o)
    (c : Dev nD) (r : Fin 64) (o : Fin 512) :
    (outAt (F := Ideal) m ρ c (ix2 r o) : EReal)
      = kernelRow (fun t => x (ix2 (slotRow c r) t)) (fun t e => w (ix2 t e)) (i (ix2 (slotRow c r) (0 : Fin 2)))
          (i (ix2 (slotRow c r) (1 : Fin 2))) (fun e t => W e t o) := by
  refine (out_sum m ρ c r o).trans (Eq.symm ?_)
  show kernelRow _ _ _ _ _ = ∑ d, part m ρ c d r o
  unfold kernelRow
  rw [← sum_expert]
  refine Finset.sum_congr rfl fun d _ => ?_
  unfold part accAt
  symm
  rw [Ker.accOf_apply, Ker.idxCol0_apply, Ker.idxCol1_apply, hx d, hw d, hi d]
  refine Finset.sum_congr rfl fun k _ => Finset.sum_congr rfl fun t _ => ?_
  exact congrArg (_ * ·) (he d k t o)

end Out

end Cert.Moe

end
-- ==== Proof.RefStages.lean ====
/-
# The reference's stages

The reference's result is one long term of its four arguments; here it is cut into the stages the mathematics names.
-/
module

public import proofs.«01_k».proof.Proof.Gate
public import proofs.«01_k».proof.Proof.Gen.ReferenceIdeal.Run

@[expose] public section

noncomputable section

namespace Cert.Moe.Ref

open Cert.ReferenceIdeal Cert.ReferenceIdeal.Gen Cert.ReferenceIdeal.Value
open Idealize.ShloMosaic
open Idealize.ShloMosaic.TcCoe
open Idealize.SL.Sem

/-- The scores of the 32 experts for the 512 tokens. -/
def scores (x : FVec Ideal S512x256 .bf16) (w : FVec Ideal S256x32 .bf16) : FVec Ideal S512x32 .f32 :=
  Host.dotGeneral dot_S512x256_S256x32_S512x32_1_0_0_1_n_n none (extf .f32 x bitsLt_bf16_f32) (extf .f32 w bitsLt_bf16_f32)

/-- The exponentials of the scores less each token's largest. -/
def weights (x : FVec Ideal S512x256 .bf16) (w : FVec Ideal S256x32 .bf16) : FVec Ideal S512x32 .f32 :=
  Host.exp (subf (scores x w) (broadcastInDim S512x32 ![0, 1] bcast_S512x1_S512x32_0_1
    (broadcastInDim S512x1 ![0] bcast_S512_S512x1_0
      (Host.reduce FloatOps.maximumf (scores x w) (constant S_ .f32 0xFF800000#32) reducesTo_S512x32_S512_d1 h_S_))))

/-- The softmax. -/
def softs (x : FVec Ideal S512x256 .bf16) (w : FVec Ideal S256x32 .bf16) : FVec Ideal S512x32 .f32 :=
  Host.divf (weights x w) (broadcastInDim S512x32 ![0, 1] bcast_S512x1_S512x32_0_1
    (broadcastInDim S512x1 ![0] bcast_S512_S512x1_0
      (Host.reduceAdd (weights x w) (constant S_ .f32 0x00000000#32) reducesTo_S512x32_S512_d1 h_S_)))

/-- The first of a token's two expert words, and the second. -/
def first (i : IVec S512x2 32) : IVec S512 32 :=
  shapeCast S512 (extractStridedSlice S512x1 ![0, 0] i slices_S512x2_S512x1_0_0) shapeCasts_S512x1_S512
def second (i : IVec S512x2 32) : IVec S512 32 :=
  shapeCast S512 (extractStridedSlice S512x1 ![0, 1] i slices_S512x2_S512x1_0_1) shapeCasts_S512x1_S512

/-- A column of words. -/
def col (i : IVec S512 32) : IVec S512x1 32 := broadcastInDim S512x1 ![0] bcast_S512_S512x1_0 i

/-- The pairs (token, word). -/
def pairs (i : IVec S512 32) : IVec S512x2 32 :=
  concatenate S512x2 1 [⟨S512x1, col (iotaInDim S512 32 0)⟩, ⟨S512x1, col i⟩] concatenates_S512x1_S512x1_S512x2_d1

/-- Whether a pair lies inside the softmax's array. -/
def pairsIn (lit : Fin 2 → BitVec 32) (i : IVec S512 32) : IVec S512 1 :=
  Host.reduce IntOp.andi (andi (cmpi .sge (pairs i) (broadcastInDim S512x2 ![] bcast_S_S512x2 (constantI S_ 32 0#32)))
    (cmpi .sle (pairs i) (broadcastInDim S512x2 ![0, 1] bcast_S1x2_S512x2_0_1
      (broadcastInDim S1x2 ![1] bcast_S2_S1x2_1 (fun j => lit (S2.rowMajor j))))))
    (constantI S_ 1 1#1) reducesTo_S512x2_S512_d1 h_S_

/-- The softmax looked up at a word, zero outside. -/
def picked (lit : Fin 2 → BitVec 32) (x : FVec Ideal S512x256 .bf16) (w : FVec Ideal S256x32 .bf16) (i : IVec S512 32) :
    FVec Ideal S512 .f32 :=
  select (pairsIn lit i) (Host.gather gather_S512x32_S512x2_S512_n_01_n_n_01_1_11 (softs x w) (pairs i))
    (broadcastInDim S512 ![] bcast_S_S512 (constant S_ .f32 0x00000000#32))

/-- Whether a word names an expert. -/
def wordIn (i : IVec S512 32) : IVec S512 1 :=
  Host.reduce IntOp.andi (andi (cmpi .sge (col i) (broadcastInDim S512x1 ![] bcast_S_S512x1 (constantI S_ 32 0#32)))
    (cmpi .sle (col i) (broadcastInDim S512x1 ![0, 1] bcast_S1x1_S512x1_0_1
      (broadcastInDim S1x1 ![1] bcast_S1_S1x1_1 (constantI S1 32 31#32)))))
    (constantI S_ 1 1#1) reducesTo_S512x1_S512_d1 h_S_

/-- Each token's expert matrix, zero where the word names none. -/
def mats (e : FVec Ideal S32x256x512 .bf16) (i : IVec S512 32) : FVec Ideal S512x256x512 .f32 :=
  select (broadcastInDim S512x256x512 ![0] bcast_S512_S512x256x512_0 (wordIn i))
    (Host.gather gather_S32x256x512_S512x1_S512x256x512_12_0_n_n_0_1_1256512 (extf .f32 e bitsLt_bf16_f32) (col i))
    (broadcastInDim S512x256x512 ![] bcast_S_S512x256x512 (constant S_ .f32 0x00000000#32))

/-- Each token's product with its expert. -/
def prods (x : FVec Ideal S512x256 .bf16) (e : FVec Ideal S32x256x512 .bf16) (i : IVec S512 32) : FVec Ideal S512x512 .f32 :=
  Host.dotGeneral dot_S512x256_S512x256x512_S512x512_1_1_n_2_0_0 none (extf .f32 x bitsLt_bf16_f32) (mats e i)

/-- A coefficient laid along its token's row. -/
def laid (g : FVec Ideal S512 .f32) : FVec Ideal S512x512 .f32 :=
  broadcastInDim S512x512 ![0, 1] bcast_S512x1_S512x512_0_1 (broadcastInDim S512x1 ![0] bcast_S512_S512x1_0 g)

/-- The two picked softmax values' sum. -/
def total (x : FVec Ideal S512x256 .bf16) (w : FVec Ideal S256x32 .bf16) (i : IVec S512x2 32) : FVec Ideal S512 .f32 :=
  addf (picked lit0 x w (first i)) (picked lit1 x w (second i))

/-- The reference's result. -/
def result (x : FVec Ideal S512x256 .bf16) (w : FVec Ideal S256x32 .bf16) (i : IVec S512x2 32)
    (e : FVec Ideal S32x256x512 .bf16) : FVec Ideal S512x512 .f32 :=
  addf (mulf (laid (Host.divf (picked lit0 x w (first i)) (total x w i))) (prods x e (first i)))
    (mulf (laid (Host.divf (picked lit1 x w (second i)) (total x w i))) (prods x e (second i)))

set_option maxRecDepth 8192 in
theorem res_eq (m : (ℓ : Loc nD τ sig) → Buf (Elt Ideal) ℓ) (c : Dev nD) :
    res_main_v79 m c = result (m ((c.tc : Thread nD τ).loc main_arg0)) (m ((c.tc : Thread nD τ).loc main_arg1))
      (m ((c.tc : Thread nD τ).loc main_arg2)) (m ((c.tc : Thread nD τ).loc main_arg3)) := by
  unfold res_main_v79
  rfl

end Cert.Moe.Ref
-- ==== Proof.RefValue.lean ====
/-
# The reference's value at an index

Each stage of the reference read at one index, and its result there as the row of `Gate`.
-/
module

public import proofs.«01_k».proof.Proof.RefStages
public import Idealize.ShloMosaic.Lib.ValueIdxCore
public import Idealize.ShloMosaic.Lib.StackMember
public import Idealize.ShloMosaic.Lib.Pipeline.Value

@[expose] public section

noncomputable section

namespace Cert.Moe.Ref

open Cert.ReferenceIdeal Cert.ReferenceIdeal.Gen
open Idealize.ShloMosaic Idealize.ShloMosaic.ValueIdx
open Cert.Moe.Gate
open scoped BigOperators

/-! ## Words and bits -/

theorem select_iff {α : Type} {b : BitVec 1} {P : Prop} [Decidable P] (h : b = 1#1 ↔ P) (x y : α) :
    Scalar.select b x y = if P then x else y := by
  unfold Scalar.select
  by_cases hp : P
  · rw [if_pos hp]; exact if_pos (h.2 hp)
  · rw [if_neg hp]; exact if_neg (fun hb => hp (h.1 hb))

theorem andi_one_iff (a b : BitVec 1) : IntOp.andi a b = 1#1 ↔ a = 1#1 ∧ b = 1#1 := by
  revert a b; decide

theorem fold_andi_iff {ι : Type} [DecidableEq ι] (s : Finset ι) (f : ι → BitVec 1) :
    s.fold IntOp.andi 1#1 f = 1#1 ↔ ∀ k ∈ s, f k = 1#1 := by
  induction s using Finset.induction_on with
  | empty => simp
  | insert a s ha ih =>
    rw [Finset.fold_insert ha, andi_one_iff, ih]
    simp

theorem sge_iff (x y : BitVec 32) : IntOp.cmpi .sge x y = 1#1 ↔ y.toInt ≤ x.toInt := by
  show BitVec.ofBool (y.sle x) = 1#1 ↔ _
  rw [← BitVec.sle_iff_toInt_le]
  cases y.sle x <;> simp

theorem sle_iff (x y : BitVec 32) : IntOp.cmpi .sle x y = 1#1 ↔ x.toInt ≤ y.toInt := by
  show BitVec.ofBool (x.sle y) = 1#1 ↔ _
  rw [← BitVec.sle_iff_toInt_le]
  cases x.sle y <;> simp

/-! ## Broadcasts and reductions -/

theorem col_apply {α : Type} (v : S512.Idx → α) (r : Fin 512) (z : Fin 1) :
    broadcastInDim S512x1 ![0] bcast_S512_S512x1_0 v (ix2 r z) = v (ix1 r) :=
  broadcastInDim_apply _ _ _ _ _ fun a => match a with | ⟨0, _⟩ => rfl

theorem lay32_apply {α : Type} (v : S512.Idx → α) (r : Fin 512) (e : Fin 32) :
    broadcastInDim S512x32 ![0, 1] bcast_S512x1_S512x32_0_1 (broadcastInDim S512x1 ![0] bcast_S512_S512x1_0 v) (ix2 r e)
      = v (ix1 r) :=
  (broadcastInDim_apply _ _ _ _ (ix2 r (0 : Fin 1)) fun a => match a with | ⟨0, _⟩ => rfl | ⟨1, _⟩ => rfl).trans
    (col_apply v r 0)

theorem laid_apply (g : FVec Ideal S512 .f32) (r : Fin 512) (o : Fin 512) : laid g (ix2 r o) = g (ix1 r) :=
  (broadcastInDim_apply _ _ _ _ (ix2 r (0 : Fin 1)) fun a => match a with | ⟨0, _⟩ => rfl | ⟨1, _⟩ => rfl).trans
    (col_apply g r 0)

theorem reduces32 : S512x32.Reduces [1] S512 := by decide
theorem reduces2 : S512x2.Reduces [1] S512 := by decide
theorem reduces1 : S512x1.Reduces [1] S512 := by decide

theorem lift32 (r : Fin 512) (k : Fin 32) : reduces32.lift (ix1 r) k = ix2 r k := by
  funext c; apply Fin.ext
  match c with
  | ⟨0, _⟩ => rfl
  | ⟨1, _⟩ => rfl
theorem lift2 (r : Fin 512) (k : Fin 2) : reduces2.lift (ix1 r) k = ix2 r k := by
  funext c; apply Fin.ext
  match c with
  | ⟨0, _⟩ => rfl
  | ⟨1, _⟩ => rfl
theorem lift1 (r : Fin 512) (k : Fin 1) : reduces1.lift (ix1 r) k = ix2 r k := by
  funext c; apply Fin.ext
  match c with
  | ⟨0, _⟩ => rfl
  | ⟨1, _⟩ => rfl

/-! ## The softmax -/

/-- Row `r` of the tokens, and the router's weights by coordinates. -/
abbrev row (x : FVec Ideal S512x256 .bf16) (r : Fin 512) : Fin 256 → EReal := fun t => x (ix2 r t)
abbrev mat (w : FVec Ideal S256x32 .bf16) : Fin 256 → Fin 32 → EReal := fun t e => w (ix2 t e)

theorem scores_apply (x : FVec Ideal S512x256 .bf16) (w : FVec Ideal S256x32 .bf16) (r : Fin 512) (e : Fin 32) :
    scores x w (ix2 r e) = score (row x r) (mat w) e :=
  StackMember.dotGeneral_plain_apply (m := 512) (n := 32) (k := 256) none (extf .f32 x bitsLt_bf16_f32) (extf .f32 w bitsLt_bf16_f32) r e

theorem bot_bits : (FloatOps.ofBits (F := Ideal) .f32 0xFF800000#32 : EReal) = ⊥ := by
  show Ideal.ofBits .f32 0xFF800000#32 = ⊥
  simp [Ideal.ofBits, Ideal.ieee]

theorem peak_apply (x : FVec Ideal S512x256 .bf16) (w : FVec Ideal S256x32 .bf16) (r : Fin 512) :
    Host.reduce FloatOps.maximumf (scores x w) (constant S_ .f32 0xFF800000#32) reducesTo_S512x32_S512_d1 h_S_ (ix1 r)
      = (Finset.univ : Finset (Fin 32)).fold max ⊥ (score (row x r) (mat w)) := by
  rw [Host.reduce_eq_fold_single FloatOps.maximumf (scores x w) _ reducesTo_S512x32_S512_d1 reduces32 h_S_]
  show (Finset.univ : Finset (Fin 32)).fold max (FloatOps.ofBits (F := Ideal) .f32 0xFF800000#32 : EReal)
    (scores x w ∘ reduces32.lift (ix1 r)) = _
  rw [bot_bits]
  congr 1
  funext k
  exact (congrArg (scores x w) (lift32 r k)).trans (scores_apply x w r k)

theorem weights_apply (x : FVec Ideal S512x256 .bf16) (w : FVec Ideal S256x32 .bf16) (r : Fin 512) (e : Fin 32) :
    weights x w (ix2 r e) = weight (row x r) (mat w) e := by
  show Ideal.exp (scores x w (ix2 r e) - broadcastInDim S512x32 ![0, 1] bcast_S512x1_S512x32_0_1
    (broadcastInDim S512x1 ![0] bcast_S512_S512x1_0
      (Host.reduce FloatOps.maximumf (scores x w) (constant S_ .f32 0xFF800000#32) reducesTo_S512x32_S512_d1 h_S_)) (ix2 r e)) = _
  rw [lay32_apply, peak_apply, scores_apply]
  rfl

theorem softs_apply (x : FVec Ideal S512x256 .bf16) (w : FVec Ideal S256x32 .bf16) (r : Fin 512) (e : Fin 32) :
    softs x w (ix2 r e) = soft (weight (row x r) (mat w)) e := by
  show Ideal.div (weights x w (ix2 r e)) (broadcastInDim S512x32 ![0, 1] bcast_S512x1_S512x32_0_1
    (broadcastInDim S512x1 ![0] bcast_S512_S512x1_0
      (Host.reduceAdd (weights x w) (constant S_ .f32 0x00000000#32) reducesTo_S512x32_S512_d1 h_S_)) (ix2 r e)) = _
  rw [lay32_apply, weights_apply]
  unfold soft
  congr 1
  refine (Ideal.hostReduceAdd_single reducesTo_S512x32_S512_d1 reduces32 (weights x w) _ (ix1 r)).trans ?_
  rw [show (constant (F := Ideal) S_ .f32 0x00000000#32 (Shape.Idx.first h_S_) : EReal) = 0 from Ideal.ofBits_zero_f32, zero_add]
  exact Finset.sum_congr rfl fun k _ => (congrArg (weights x w) (lift32 r k)).trans (weights_apply x w r k)

/-! ## The words -/

theorem first_apply (i : IVec S512x2 32) (r : Fin 512) : first i (ix1 r) = i (ix2 r (0 : Fin 2)) := by
  unfold first
  rw [shapeCast_apply _ _ (ix1 r) (ix2 r (0 : Fin 1)) (by rw [Shape.rowMajor_val_two, Shape.rowMajor_val_one]; exact Nat.mul_one _)]
  exact extractStridedSlice_apply _ _ _ _ _ fun a => match a with | ⟨0, _⟩ => (Nat.zero_add _).symm | ⟨1, _⟩ => rfl

theorem second_apply (i : IVec S512x2 32) (r : Fin 512) : second i (ix1 r) = i (ix2 r (1 : Fin 2)) := by
  unfold second
  rw [shapeCast_apply _ _ (ix1 r) (ix2 r (0 : Fin 1)) (by rw [Shape.rowMajor_val_two, Shape.rowMajor_val_one]; exact Nat.mul_one _)]
  exact extractStridedSlice_apply _ _ _ _ _ fun a => match a with | ⟨0, _⟩ => (Nat.zero_add _).symm | ⟨1, _⟩ => rfl

theorem pairs_zero (i : IVec S512 32) (r : Fin 512) : pairs i (ix2 r (0 : Fin 2)) = BitVec.ofNat 32 r.val := by
  unfold pairs
  rw [concatenate_pair_apply_left (t := S512x2) (s₁ := S512x1) (s₂ := S512x1) 1 _ _ _ (ix2 r (0 : Fin 2)) rfl (ix2 r (0 : Fin 1))
    fun b => match b with | ⟨0, _⟩ => rfl | ⟨1, _⟩ => rfl]
  exact col_apply _ r 0

theorem pairs_one (i : IVec S512 32) (r : Fin 512) : pairs i (ix2 r (1 : Fin 2)) = i (ix1 r) := by
  unfold pairs
  rw [concatenate_pair_apply_right (t := S512x2) (s₁ := S512x1) (s₂ := S512x1) 1 _ _ _ (ix2 r (1 : Fin 2)) rfl rfl (ix2 r (0 : Fin 1))
    (fun b hb => match b, hb with | ⟨0, _⟩, _ => rfl | ⟨1, _⟩, hb => absurd rfl hb) rfl]
  exact col_apply _ r 0

theorem token_toInt (r : Fin 512) : (BitVec.ofNat 32 r.val).toInt = (r.val : Int) := by
  have h := r.isLt
  rw [BitVec.toInt_eq_toNat_cond, BitVec.toNat_ofNat, Nat.mod_eq_of_lt (by omega)]
  split <;> omega

theorem pairsIn_iff (lit : Fin 2 → BitVec 32) (h0 : lit 0 = 511#32) (h1 : lit 1 = 31#32) (i : IVec S512 32) (r : Fin 512) :
    pairsIn lit i (ix1 r) = 1#1 ↔ Names (i (ix1 r)) := by
  unfold pairsIn
  rw [Host.reduce_eq_fold_single IntOp.andi _ _ reducesTo_S512x2_S512_d1 reduces2 h_S_]
  refine (fold_andi_iff (Finset.univ : Finset (Fin 2)) _).trans ?_
  have hl : ∀ k : Fin 2, broadcastInDim S512x2 ![0, 1] bcast_S1x2_S512x2_0_1
      (broadcastInDim S1x2 ![1] bcast_S2_S1x2_1 (fun j => lit (S2.rowMajor j))) (ix2 r k) = lit k := fun k =>
    (broadcastInDim_apply _ _ _ _ (ix2 (0 : Fin 1) k) fun a => match a with | ⟨0, _⟩ => rfl | ⟨1, _⟩ => rfl).trans
      ((broadcastInDim_apply _ _ _ _ (ix1 k) fun a => match a with | ⟨0, _⟩ => rfl).trans
        (congrArg lit (Fin.ext (Shape.rowMajor_val_one (d := ![2]) (ix1 k)))))
  have hk : ∀ k : Fin 2, (andi (cmpi .sge (pairs i) (broadcastInDim S512x2 ![] bcast_S_S512x2 (constantI S_ 32 0#32)))
      (cmpi .sle (pairs i) (broadcastInDim S512x2 ![0, 1] bcast_S1x2_S512x2_0_1
        (broadcastInDim S1x2 ![1] bcast_S2_S1x2_1 (fun j => lit (S2.rowMajor j)))))) (reduces2.lift (ix1 r) k) = 1#1
      ↔ 0 ≤ (pairs i (ix2 r k)).toInt ∧ (pairs i (ix2 r k)).toInt ≤ (lit k).toInt := fun k => by
    rw [lift2]
    refine (andi_one_iff _ _).trans (and_congr ((sge_iff _ _).trans ?_) ((sle_iff _ _).trans ?_))
    · exact Iff.rfl
    · rw [hl]
  constructor
  · intro h
    have := (hk 1).1 (h 1 (Finset.mem_univ _))
    rw [pairs_one, h1] at this
    exact this
  · intro h k _
    refine (hk k).2 ?_
    match k with
    | ⟨0, _⟩ =>
      rw [show (⟨0, by omega⟩ : Fin 2) = 0 from rfl, pairs_zero, h0, token_toInt]
      have hr := r.isLt
      rw [show (511#32 : BitVec 32).toInt = 511 from by decide]
      omega
    | ⟨1, _⟩ =>
      rw [show (⟨1, by omega⟩ : Fin 2) = 1 from rfl, pairs_one, h1]
      exact h

theorem wordIn_iff (i : IVec S512 32) (r : Fin 512) : wordIn i (ix1 r) = 1#1 ↔ Names (i (ix1 r)) := by
  unfold wordIn
  rw [Host.reduce_eq_fold_single IntOp.andi _ _ reducesTo_S512x1_S512_d1 reduces1 h_S_]
  refine (fold_andi_iff (Finset.univ : Finset (Fin 1)) _).trans ?_
  have hk : ∀ k : Fin 1, (andi (cmpi .sge (col i) (broadcastInDim S512x1 ![] bcast_S_S512x1 (constantI S_ 32 0#32)))
    (cmpi .sle (col i) (broadcastInDim S512x1 ![0, 1] bcast_S1x1_S512x1_0_1
      (broadcastInDim S1x1 ![1] bcast_S1_S1x1_1 (constantI S1 32 31#32))))) (reduces1.lift (ix1 r) k) = 1#1
      ↔ Names (i (ix1 r)) := fun k => by
    rw [lift1]
    refine (andi_one_iff _ _).trans (and_congr ((sge_iff _ _).trans ?_) ((sle_iff _ _).trans ?_))
    · rw [show col i (ix2 r k) = i (ix1 r) from col_apply i r k]; exact Iff.rfl
    · rw [show col i (ix2 r k) = i (ix1 r) from col_apply i r k]; exact Iff.rfl
  exact ⟨fun h => (hk 0).1 (h 0 (Finset.mem_univ _)), fun h k _ => (hk k).2 h⟩

/-! ## The gathers -/

/-- The softmax gathered at a pair: the token's row, at the word clamped to the experts. -/
theorem gather_pair (x : FVec Ideal S512x32 .f32) (i : IVec S512 32) (r : Fin 512) :
    Host.gather gather_S512x32_S512x2_S512_n_01_n_n_01_1_11 x (pairs i) (ix1 r) = x (ix2 r (named (i (ix1 r)))) := by
  let d := gather_S512x32_S512x2_S512_n_01_n_n_01_1_11
  unfold Host.gather
  congr 1
  funext a
  refine Fin.ext ?_
  show d.start (ix1 r) (pairs i) a + d.batchCoord (ix1 r) a + d.offCoord (ix1 r) a = _
  rw [GatherDims.batchCoord_eq_zero _ _ _ List.not_mem_nil,
    GatherDims.offCoord_eq_zero _ _ _ (fun h => ((GatherDims.mem_sKept _ _).mp h).1 (by
      show a ∈ [(0 : Fin 2), 1]; match a with | ⟨0, _⟩ => simp | ⟨1, _⟩ => simp))]
  simp only [Nat.add_zero]
  unfold GatherDims.start
  match a with
  | ⟨0, _⟩ =>
    refine (dif_pos (show (0 : Fin 2) ∈ [(0 : Fin 2), 1] from by simp)).trans ?_
    have hsi : d.siIdx (ix1 r) ⟨List.idxOf (0 : Fin 2) d.startIndexMap, List.idxOf_lt_length_iff.2 (by show (0 : Fin 2) ∈ [(0 : Fin 2), 1]; simp)⟩
        = ix2 r (0 : Fin 2) := by
      funext b; refine Fin.ext ?_
      match b with
      | ⟨0, _⟩ => rfl
      | ⟨1, _⟩ => rfl
    show min (pairs i (d.siIdx (ix1 r) ⟨List.idxOf (0 : Fin 2) d.startIndexMap, _⟩)).toInt.toNat (512 - 1) = r.val
    rw [hsi, pairs_zero, token_toInt]
    have := r.isLt
    omega
  | ⟨1, _⟩ =>
    refine (dif_pos (show (1 : Fin 2) ∈ [(0 : Fin 2), 1] from by simp)).trans ?_
    have hsi : d.siIdx (ix1 r) ⟨List.idxOf (1 : Fin 2) d.startIndexMap, List.idxOf_lt_length_iff.2 (by show (1 : Fin 2) ∈ [(0 : Fin 2), 1]; simp)⟩
        = ix2 r (1 : Fin 2) := by
      funext b; refine Fin.ext ?_
      match b with
      | ⟨0, _⟩ => rfl
      | ⟨1, _⟩ => rfl
    show min (pairs i (d.siIdx (ix1 r) ⟨List.idxOf (1 : Fin 2) d.startIndexMap, _⟩)).toInt.toNat (32 - 1) = (named (i (ix1 r))).val
    rw [hsi, pairs_one]
    rfl

/-- An expert's matrix gathered at a word, clamped to the experts. -/
theorem gather_mat (e : FVec Ideal S32x256x512 .f32) (i : IVec S512 32) (r : Fin 512) (t : Fin 256) (o : Fin 512) :
    Host.gather gather_S32x256x512_S512x1_S512x256x512_12_0_n_n_0_1_1256512 e (col i) (ix3 r t o)
      = e (ix3 (named (i (ix1 r))) t o) := by
  let d := gather_S32x256x512_S512x1_S512x256x512_12_0_n_n_0_1_1256512
  unfold Host.gather
  congr 1
  funext a
  refine Fin.ext ?_
  show d.start (ix3 r t o) (col i) a + d.batchCoord (ix3 r t o) a + d.offCoord (ix3 r t o) a = _
  rw [GatherDims.batchCoord_eq_zero _ _ _ List.not_mem_nil]
  match a with
  | ⟨0, _⟩ =>
    rw [GatherDims.offCoord_eq_zero _ _ _ (fun h => ((GatherDims.mem_sKept _ _).mp h).1 (by
      show (0 : Fin 3) ∈ [(0 : Fin 3)]; simp))]
    simp only [Nat.add_zero]
    unfold GatherDims.start
    refine (dif_pos (show (0 : Fin 3) ∈ [(0 : Fin 3)] from by simp)).trans ?_
    have hsi : d.siIdx (ix3 r t o) ⟨List.idxOf (0 : Fin 3) d.startIndexMap, List.idxOf_lt_length_iff.2 (by show (0 : Fin 3) ∈ [(0 : Fin 3)]; simp)⟩
        = ix2 r (0 : Fin 1) := by
      funext b; refine Fin.ext ?_
      match b with
      | ⟨0, _⟩ => rfl
      | ⟨1, _⟩ => rfl
    show min (col i (d.siIdx (ix3 r t o) ⟨List.idxOf (0 : Fin 3) d.startIndexMap, _⟩)).toInt.toNat (32 - 1) = (named (i (ix1 r))).val
    rw [hsi, show col i (ix2 r (0 : Fin 1)) = i (ix1 r) from col_apply i r 0]
    rfl
  | ⟨1, _⟩ =>
    show d.start (ix3 r t o) (col i) (1 : Fin 3) + 0 + d.offCoord (ix3 r t o) (1 : Fin 3) = t.val
    have hs : d.start (ix3 r t o) (col i) (1 : Fin 3) = 0 := dif_neg (show ¬ (1 : Fin 3) ∈ [(0 : Fin 3)] from by simp)
    have ho : d.offCoord (ix3 r t o) (1 : Fin 3) = t.val := dif_pos (show (1 : Fin 3) ∈ d.sKept from by decide)
    omega
  | ⟨2, _⟩ =>
    show d.start (ix3 r t o) (col i) (2 : Fin 3) + 0 + d.offCoord (ix3 r t o) (2 : Fin 3) = o.val
    have hs : d.start (ix3 r t o) (col i) (2 : Fin 3) = 0 := dif_neg (show ¬ (2 : Fin 3) ∈ [(0 : Fin 3)] from by simp)
    have ho : d.offCoord (ix3 r t o) (2 : Fin 3) = o.val := dif_pos (show (2 : Fin 3) ∈ d.sKept from by decide)
    omega

theorem picked_apply (lit : Fin 2 → BitVec 32) (h0 : lit 0 = 511#32) (h1 : lit 1 = 31#32) (x : FVec Ideal S512x256 .bf16)
    (w : FVec Ideal S256x32 .bf16) (i : IVec S512 32) (r : Fin 512) :
    picked lit x w i (ix1 r) = look (soft (weight (row x r) (mat w))) (i (ix1 r)) := by
  unfold picked
  rw [select_apply, select_iff (pairsIn_iff lit h0 h1 i r), gather_pair, softs_apply]
  unfold look
  congr 1
  exact Ideal.ofBits_zero_f32

theorem mats_apply (e : FVec Ideal S32x256x512 .bf16) (i : IVec S512 32) (r : Fin 512) (t : Fin 256) (o : Fin 512) :
    mats e i (ix3 r t o) = look (fun k => e (ix3 k t o)) (i (ix1 r)) := by
  unfold mats
  rw [select_apply, broadcastInDim_apply (s := S512) (t := S512x256x512) _ _ (wordIn i) (ix3 r t o) (ix1 r)
    (fun a => match a with | ⟨0, _⟩ => rfl), select_iff (wordIn_iff i r), gather_mat]
  unfold look
  congr 1
  exact Ideal.ofBits_zero_f32

theorem prods_apply (x : FVec Ideal S512x256 .bf16) (e : FVec Ideal S32x256x512 .bf16) (i : IVec S512 32) (r o : Fin 512) :
    prods x e i (ix2 r o) = ∑ t, row x r t * look (fun k => e (ix3 k t o)) (i (ix1 r)) := by
  let d := dot_S512x256_S512x256x512_S512x512_1_1_n_2_0_0
  show FloatOps.dotGeneral d none _ (extf .f32 x bitsLt_bf16_f32) (mats e i) (ix2 r o) = _
  rw [Ideal.dotGeneral_apply, ← Equiv.sum_comp (contrEquiv1 d 256 rfl rfl).symm]
  refine Finset.sum_congr rfl fun t _ => ?_
  have ht := contrEquiv1_symm_val d 256 rfl rfl t
  have hl : d.lhsIdx (ix2 r o) ((contrEquiv1 d 256 rfl rfl).symm t) = ix2 r t := by
    funext a; apply Fin.ext
    match a with
    | ⟨0, _⟩ => rfl
    | ⟨1, _⟩ => exact ht
  have hr : d.rhsIdx (ix2 r o) ((contrEquiv1 d 256 rfl rfl).symm t) = ix3 r t o := by
    funext a; apply Fin.ext
    match a with
    | ⟨0, _⟩ => rfl
    | ⟨1, _⟩ => exact ht
    | ⟨2, _⟩ => rfl
  rw [hl, hr, mats_apply]
  rfl

/-- The reference's result at an index is the reference's row. -/
theorem result_apply (x : FVec Ideal S512x256 .bf16) (w : FVec Ideal S256x32 .bf16) (i : IVec S512x2 32)
    (e : FVec Ideal S32x256x512 .bf16) (r o : Fin 512) :
    result x w i e (ix2 r o) = refRow (row x r) (mat w) (i (ix2 r (0 : Fin 2))) (i (ix2 r (1 : Fin 2)))
      (fun k t => e (ix3 k t o)) := by
  show laid (Host.divf (picked lit0 x w (first i)) (total x w i)) (ix2 r o) * prods x e (first i) (ix2 r o)
    + laid (Host.divf (picked lit1 x w (second i)) (total x w i)) (ix2 r o) * prods x e (second i) (ix2 r o) = _
  rw [laid_apply, laid_apply, prods_apply, prods_apply]
  show Ideal.div (picked lit0 x w (first i) (ix1 r)) (picked lit0 x w (first i) (ix1 r) + picked lit1 x w (second i) (ix1 r)) * _
    + Ideal.div (picked lit1 x w (second i) (ix1 r)) (picked lit0 x w (first i) (ix1 r) + picked lit1 x w (second i) (ix1 r)) * _ = _
  rw [picked_apply lit0 rfl rfl, picked_apply lit1 rfl rfl, first_apply, second_apply]
  rfl

end Cert.Moe.Ref
-- ==== Proof.Assumed.lean ====
/-
# What the precondition says of the inputs

The side conditions of the precondition's two printings, and what it gives at the kernel's: every token and router entry is
a real number, and every row names an expert.
-/
module

public import proofs.«01_k».proof.Proof.Gate
public import proofs.«01_k».proof.Pre_routed_KernelIdeal
public import proofs.«01_k».proof.Pre_routed_ReferenceIdeal
public import Idealize.ShloMosaic.Lib.ValueIdx
public import Idealize.ShloMosaic.Lib.StackMember
public import Idealize.ShloMosaic.Lib.Pipeline.Value

@[expose] public section

noncomputable section

namespace Cert.Moe.Assumed

open Idealize.ShloMosaic Idealize.ShloMosaic.ValueIdx
open Cert.Moe.Gate

theorem facts_ref : Cert.Pre_routed_ReferenceIdeal.Facts where
  bcast_S_S512x2 := by decide
  bcast_S_S512x256 := by decide
  bcast_S_S256x32 := by decide
  slices_S512x2_S512x1_0_0 := by decide
  shapeCasts_S512x1_S512 := by decide
  slices_S512x2_S512x1_0_1 := by decide

theorem facts_ker : Cert.Pre_routed_KernelIdeal.Facts where
  bcast_S_S512x2 := by decide
  bcast_S_S512x256 := by decide
  bcast_S_S256x32 := by decide
  slices_S512x2_S512x1_0_0 := by decide
  shapeCasts_S512x1_S512 := by decide
  slices_S512x2_S512x1_0_1 := by decide

open Cert.Pre_routed_KernelIdeal

theorem top_bits : Ideal.ofBits .bf16 0x7F80#16 = ⊤ := by simp [Ideal.ofBits, Ideal.ieee]

/-- Below the top in size is a real number. -/
theorem real_of_lt {x : EReal} (h : max x (-x) < ⊤) : ∃ a : ℝ, x = a := by
  refine ⟨x.toReal, (EReal.coe_toReal ?_ ?_).symm⟩
  · rintro rfl
    exact absurd h (by simp)
  · rintro rfl
    exact absurd h (by simp)

theorem lt_of_one {x y : EReal} (h : Ideal.cmp .olt x y = 1#1) : x < y := by
  by_contra hn
  have h0 : Ideal.cmp .olt x y = 0#1 := by
    show BitVec.ofBool (decide (x < y)) = 0#1
    rw [decide_eq_false hn]; rfl
  rw [h0] at h
  exact absurd h (by decide)

theorem andi_one_iff (a b : BitVec 1) : IntOp.andi a b = 1#1 ↔ a = 1#1 ∧ b = 1#1 := by
  revert a b; decide
theorem ori_one_iff (a b : BitVec 1) : IntOp.ori a b = 1#1 ↔ a = 1#1 ∨ b = 1#1 := by
  revert a b; decide
theorem sge_iff (x y : BitVec 32) : IntOp.cmpi .sge x y = 1#1 ↔ y.toInt ≤ x.toInt := by
  show BitVec.ofBool (y.sle x) = 1#1 ↔ _
  rw [← BitVec.sle_iff_toInt_le]
  cases y.sle x <;> simp
theorem slt_iff (x y : BitVec 32) : IntOp.cmpi .slt x y = 1#1 ↔ x.toInt < y.toInt := by
  show BitVec.ofBool (x.slt y) = 1#1 ↔ _
  rw [← BitVec.slt_iff_toInt_lt]
  cases x.slt y <;> simp

/-- The bit of one index is one where it names an expert. -/
theorem names_iff (i : BitVec 32) : IntOp.andi (IntOp.cmpi .sge i 0#32) (IntOp.cmpi .slt i 32#32) = 1#1 ↔ Names i := by
  rw [andi_one_iff, sge_iff, slt_iff, show (0#32).toInt = 0 from by decide, show (32#32).toInt = 32 from by decide]
  unfold Names
  omega

theorem first_apply {hs : S512x2.Slices ![0, 0] S512x1} {hc : S512x1.ShapeCasts S512} (b : IVec S512x2 1) (r : Fin 512) :
    (shapeCast S512 (extractStridedSlice S512x1 ![0, 0] b hs) hc : IVec S512 1) (ix1 r) = b (ix2 r (0 : Fin 2)) := by
  rw [shapeCast_apply _ _ (ix1 r) (ix2 r (0 : Fin 1)) (by rw [Shape.rowMajor_val_two, Shape.rowMajor_val_one]; exact Nat.mul_one _)]
  exact extractStridedSlice_apply _ _ _ _ _ fun a => match a with | ⟨0, _⟩ => (Nat.zero_add _).symm | ⟨1, _⟩ => rfl

theorem second_apply {hs : S512x2.Slices ![0, 1] S512x1} {hc : S512x1.ShapeCasts S512} (b : IVec S512x2 1) (r : Fin 512) :
    (shapeCast S512 (extractStridedSlice S512x1 ![0, 1] b hs) hc : IVec S512 1) (ix1 r) = b (ix2 r (1 : Fin 2)) := by
  rw [shapeCast_apply _ _ (ix1 r) (ix2 r (0 : Fin 1)) (by rw [Shape.rowMajor_val_two, Shape.rowMajor_val_one]; exact Nat.mul_one _)]
  exact extractStridedSlice_apply _ _ _ _ _ fun a => match a with | ⟨0, _⟩ => (Nat.zero_add _).symm | ⟨1, _⟩ => rfl

section

variable [Cert.Pre_routed_KernelIdeal.Facts] (x : FVec Ideal S512x256 .bf16) (w : FVec Ideal S256x32 .bf16) (i : IVec S512x2 32)
  (e : FVec Ideal S4x256x512 .bf16)

theorem tokens_real (h : (fn x w i e).1 = fun _ => 1#1) (j : S512x256.Idx) : ∃ a : ℝ, (x j : EReal) = a := by
  have h' := congrFun h j
  have h2 : Ideal.cmp .olt (max (x j) (-(x j))) (Ideal.ofBits .bf16 0x7F80#16) = 1#1 := h'
  rw [top_bits] at h2
  exact real_of_lt (lt_of_one h2)

theorem router_real (h : (fn x w i e).2.1 = fun _ => 1#1) (j : S256x32.Idx) : ∃ a : ℝ, (w j : EReal) = a := by
  have h' := congrFun h j
  have h2 : Ideal.cmp .olt (max (w j) (-(w j))) (Ideal.ofBits .bf16 0x7F80#16) = 1#1 := h'
  rw [top_bits] at h2
  exact real_of_lt (lt_of_one h2)

theorem names_one (h : (fn x w i e).2.2 = fun _ => 1#1) (r : Fin 512) :
    Names (i (ix2 r (0 : Fin 2))) ∨ Names (i (ix2 r (1 : Fin 2))) := by
  have h' := congrFun h (ix1 r)
  have h2 := (ori_one_iff _ _).1 h'
  refine h2.imp (fun h3 => ?_) fun h3 => ?_
  · exact (names_iff _).1 ((first_apply _ r).symm.trans h3)
  · exact (names_iff _).1 ((second_apply _ r).symm.trans h3)

end

end Cert.Moe.Assumed

end
-- ==== Proof.Algebraic.lean ====
/-
# The value claim

Device by device, the stored rows are the reference's rows of that device's block.
-/
module

public import proofs.«01_k».proof.Proof.OutValue
public import proofs.«01_k».proof.Proof.RefValue
public import proofs.«01_k».proof.Proof.Assumed

@[expose] public section

noncomputable section

namespace Cert.Moe

open Idealize.ShloMosaic Idealize.ShloMosaic.ValueIdx
open Idealize.ShloMosaic.TcCoe
open Idealize.SL.Sem
open Cert.Moe.Gate

/-- Block `c` of the experts holds expert `4 c + k` at `k`. -/
theorem experts_apply (c : Fin 8) (e : (⟨3, ![32, 256, 512]⟩ : Shape).Idx → EReal) (k : Fin 4) (t : Fin 256) (o : Fin 512) :
    Layout.block ⟨3, ![4, 256, 512]⟩ ⟨3, ![32, 256, 512]⟩ 0 8 c e (by decide) (ix3 k t o) = e (ix3 (Ker.expert c k) t o) := by
  refine congrArg e ?_
  funext a
  apply Fin.ext
  match a with
  | ⟨0, _⟩ => show c.val * 4 + k.val = 4 * c.val + k.val; omega
  | ⟨1, _⟩ => rfl
  | ⟨2, _⟩ => rfl

/-- Block `c` of the result holds row `64 c + r` at `r`. -/
theorem rows_apply (c : Fin 8) (v : (⟨2, ![512, 512]⟩ : Shape).Idx → EReal) (r : Fin 64) (o : Fin 512) :
    Layout.block ⟨2, ![64, 512]⟩ ⟨2, ![512, 512]⟩ 0 8 c v (by decide) (ix2 r o) = v (ix2 (slotRow c r) o) := by
  refine congrArg v ?_
  funext a
  apply Fin.ext
  match a with
  | ⟨0, _⟩ => show c.val * 64 + r.val = 64 * c.val + r.val; omega
  | ⟨1, _⟩ => rfl

/-- What a device stores is its block of the reference's result. -/
theorem out_block (m : (ℓ : Loc Cert.KernelIdeal.nD Cert.KernelIdeal.τ Cert.KernelIdeal.sig) → Buf (Elt Ideal) ℓ)
    (g : Dev Cert.KernelIdeal.nD → PrngReg)
    (x : FVec Ideal Cert.ReferenceIdeal.S512x256 .bf16) (w : FVec Ideal Cert.ReferenceIdeal.S256x32 .bf16)
    (i : IVec Cert.ReferenceIdeal.S512x2 32) (e : FVec Ideal Cert.ReferenceIdeal.S32x256x512 .bf16)
    (hx : ∀ j, ∃ a : ℝ, (x j : EReal) = a) (hw : ∀ j, ∃ a : ℝ, (w j : EReal) = a)
    (hi : ∀ r : Fin 512, Names (i (ix2 r (0 : Fin 2))) ∨ Names (i (ix2 r (1 : Fin 2))))
    (h0 : ∀ c : Dev Cert.KernelIdeal.nD, m ((c.tc : Thread Cert.KernelIdeal.nD Cert.KernelIdeal.τ).loc Cert.KernelIdeal.main_arg0) = x)
    (h1 : ∀ c : Dev Cert.KernelIdeal.nD, m ((c.tc : Thread Cert.KernelIdeal.nD Cert.KernelIdeal.τ).loc Cert.KernelIdeal.main_arg1) = w)
    (h2 : ∀ c : Dev Cert.KernelIdeal.nD, m ((c.tc : Thread Cert.KernelIdeal.nD Cert.KernelIdeal.τ).loc Cert.KernelIdeal.main_arg2) = i)
    (h3 : ∀ c : Dev Cert.KernelIdeal.nD, m ((c.tc : Thread Cert.KernelIdeal.nD Cert.KernelIdeal.τ).loc Cert.KernelIdeal.main_arg3)
      = Layout.block ⟨3, ![4, 256, 512]⟩ ⟨3, ![32, 256, 512]⟩ 0 8 c e)
    (c : Dev Cert.KernelIdeal.nD) :
    outAt (F := Ideal) m g c = Layout.block ⟨2, ![64, 512]⟩ ⟨2, ![512, 512]⟩ 0 8 c (Ref.result x w i e) := by
  refine funext fun (y : Cert.KernelIdeal.S64x512.Idx) => ?_
  rw [eq_ix2 y]
  refine Eq.trans ?_ (rows_apply c (Ref.result x w i e) (y 0) (y 1)).symm
  refine (Out.out_row m g x w i (fun k t o => e (ix3 k t o)) (fun d => (xIn_eq m g d).trans (h0 d))
    (fun d => (wIn_eq m g d).trans (h1 d)) (fun d => (iIn_eq m g d).trans (h2 d)) (fun d k t o => ?_) c (y 0) (y 1)).trans ?_
  · exact (congrFun ((eIn_eq m g d).trans (h3 d)) (ix3 k t o)).trans (experts_apply d e k t o)
  · refine Eq.trans ?_ (Ref.result_apply x w i e (slotRow c (y 0)) (y 1)).symm
    exact row_eq _ _ _ _ _ (fun t => hx _) (fun t k => hw _) (hi _)

theorem algebraic : Cert.algebraic_KernelIdeal_ReferenceIdeal_pre_routed_KernelIdeal (hPre_routed_KernelIdeal := Assumed.facts_ker) := by
  intro m g m' g' hpre hargs
  have hp := hpre (0 : Fin 8)
  have ha := hargs (0 : Fin 8)
  letI := Assumed.facts_ker
  have hx := Assumed.tokens_real _ _ _ _ hp.1
  have hw := Assumed.router_real _ _ _ _ hp.2.1
  have hi := Assumed.names_one _ _ _ _ hp.2.2
  rw [ha.1] at hx
  rw [ha.2.1] at hw
  rw [ha.2.2.1] at hi
  have hb := out_block m g _ _ _ _ hx hw hi (fun c => (hargs c).1) (fun c => (hargs c).2.1) (fun c => (hargs c).2.2.1)
    (fun c => (hargs c).2.2.2)
  refine ⟨Cert.ReferenceIdeal.Value.res_main_v79 (F := Ideal) m' 0, ?_, ?_⟩
  · refine (θ_run Cert.KernelIdeal.defs _ _).mono (fun r h c => ⟨?_, (h.1 c (0 : Fin 5)).trans (finalA_x m g c),
      (h.1 c (1 : Fin 5)).trans (finalA_w m g c), (h.1 c (2 : Fin 5)).trans (finalA_i m g c),
      (h.1 c (3 : Fin 5)).trans (finalA_e m g c)⟩) (run_main (F := Ideal) m g)
    rw [Ref.res_eq m' 0]
    exact ((h.1 c (4 : Fin 5)).trans (finalA_out m g c)).trans (hb c)
  · exact (θ_run Cert.ReferenceIdeal.defs _ _).mono (fun r h => h 0) (Cert.ReferenceIdeal.Value.run (F := Ideal) m' g')

end Cert.Moe

end
-- ==== Proof.lean ====
/- The certificate: each of `Cert.Claim`'s parts is proved in the modules under Proof/; here they are put together. -/
module

public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Moe.Assumed.facts_ker, Cert.Moe.Assumed.facts_ref,
  Cert.Moe.frame_kernel, Cert.Moe.frame_ideal, fun m g _ => Cert.Moe.frame_ideal m g trivial,
  Cert.Moe.frame_reference, fun m g _ => Cert.Moe.frame_reference m g trivial, trivial, Cert.Moe.algebraic⟩

end Cert.Proof

end
